-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x1024 : Shape := ⟨3, ![8, 4096, 1024]⟩
abbrev S4096x1024 : Shape := ⟨2, ![4096, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S8x4096x1024 .f32) (main_arg1 : FVec F S4096x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S8x4096x1024 : Shape := ⟨3, ![8, 4096, 1024]⟩
abbrev S4096x1024 : Shape := ⟨2, ![4096, 1024]⟩
abbrev S8x64x64x1024 : Shape := ⟨4, ![8, 64, 64, 1024]⟩
abbrev S64x64x1024 : Shape := ⟨3, ![64, 64, 1024]⟩
abbrev S64 : Shape := ⟨1, ![64]⟩
abbrev S64x1 : Shape := ⟨2, ![64, 1]⟩
abbrev S128 : Shape := ⟨1, ![128]⟩
abbrev S1x128 : Shape := ⟨2, ![1, 128]⟩
abbrev S1x64 : Shape := ⟨2, ![1, 64]⟩
abbrev S128x1 : Shape := ⟨2, ![128, 1]⟩
abbrev S_ : Shape := ⟨0, ![]⟩
abbrev S64x128 : Shape := ⟨2, ![64, 128]⟩
abbrev S64x64 : Shape := ⟨2, ![64, 64]⟩
abbrev S128x64 : Shape := ⟨2, ![128, 64]⟩
abbrev S8x64x1024x64 : Shape := ⟨4, ![8, 64, 1024, 64]⟩
abbrev S1x64x64x128 : Shape := ⟨4, ![1, 64, 64, 128]⟩
abbrev S64x64x128 : Shape := ⟨3, ![64, 64, 128]⟩
abbrev S1x64x128x64 : Shape := ⟨4, ![1, 64, 128, 64]⟩
abbrev S64x128x128 : Shape := ⟨3, ![64, 128, 128]⟩
abbrev S64x1x128 : Shape := ⟨3, ![64, 1, 128]⟩
abbrev S64x128x64 : Shape := ⟨3, ![64, 128, 64]⟩

abbrev nBuf : Space → Nat
  | .hbm => 139
  | .vmem => 20
  | .smem => 0
  | _ => 0

abbrev hbmTy0_0 (i : Nat) : BufTy := match i % 128 with
  | 0 => ⟨S8x4096x1024, .f32⟩
  | 1 => ⟨S4096x1024, .f32⟩
  | 2 => ⟨S8x64x64x1024, .f32⟩
  | 3 => ⟨S64x64x1024, .f32⟩
  | 4 => ⟨S64, .i32⟩
  | 5 => ⟨S64x1, .i32⟩
  | 6 => ⟨S128, .i32⟩
  | 7 => ⟨S1x128, .i32⟩
  | 8 => ⟨S64, .i32⟩
  | 9 => ⟨S64x1, .i32⟩
  | 10 => ⟨S64, .i32⟩
  | 11 => ⟨S1x64, .i32⟩
  | 12 => ⟨S128, .i32⟩
  | 13 => ⟨S128x1, .i32⟩
  | 14 => ⟨S64, .i32⟩
  | 15 => ⟨S1x64, .i32⟩
  | 16 => ⟨S_, .f32⟩
  | 17 => ⟨S_, .f32⟩
  | 18 => ⟨S_, .f32⟩
  | 19 => ⟨S64x128, .i32⟩
  | 20 => ⟨S64x128, .i32⟩
  | 21 => ⟨S64x128, .i32⟩
  | 22 => ⟨S64x128, .f32⟩
  | 23 => ⟨S64x128, .f32⟩
  | 24 => ⟨S64x128, .f32⟩
  | 25 => ⟨S_, .f32⟩
  | 26 => ⟨S64x128, .f32⟩
  | 27 => ⟨S64x128, .f32⟩
  | 28 => ⟨S64x128, .f32⟩
  | 29 => ⟨S_, .f32⟩
  | 30 => ⟨S64x128, .f32⟩
  | 31 => ⟨S64x128, .f32⟩
  | 32 => ⟨S64x128, .f32⟩
  | 33 => ⟨S_, .f32⟩
  | 34 => ⟨S64x128, .f32⟩
  | 35 => ⟨S64x128, .f32⟩
  | 36 => ⟨S_, .f32⟩
  | 37 => ⟨S_, .f32⟩
  | 38 => ⟨S_, .f32⟩
  | 39 => ⟨S64x128, .i32⟩
  | 40 => ⟨S64x128, .i32⟩
  | 41 => ⟨S64x128, .i32⟩
  | 42 => ⟨S64x128, .f32⟩
  | 43 => ⟨S64x128, .f32⟩
  | 44 => ⟨S64x128, .f32⟩
  | 45 => ⟨S_, .f32⟩
  | 46 => ⟨S64x128, .f32⟩
  | 47 => ⟨S64x128, .f32⟩
  | 48 => ⟨S64x128, .f32⟩
  | 49 => ⟨S_, .f32⟩
  | 50 => ⟨S64x128, .f32⟩
  | 51 => ⟨S64x128, .f32⟩
  | 52 => ⟨S64x128, .f32⟩
  | 53 => ⟨S_, .f32⟩
  | 54 => ⟨S64x128, .f32⟩
  | 55 => ⟨S64x128, .f32⟩
  | 56 => ⟨S_, .f32⟩
  | 57 => ⟨S_, .f32⟩
  | 58 => ⟨S_, .f32⟩
  | 59 => ⟨S64x64, .i32⟩
  | 60 => ⟨S64x64, .i32⟩
  | 61 => ⟨S64x64, .i32⟩
  | 62 => ⟨S64x64, .f32⟩
  | 63 => ⟨S64x64, .f32⟩
  | 64 => ⟨S64x64, .f32⟩
  | 65 => ⟨S_, .f32⟩
  | 66 => ⟨S64x64, .f32⟩
  | 67 => ⟨S64x64, .f32⟩
  | 68 => ⟨S64x64, .f32⟩
  | 69 => ⟨S_, .f32⟩
  | 70 => ⟨S64x64, .f32⟩
  | 71 => ⟨S64x64, .f32⟩
  | 72 => ⟨S64x64, .f32⟩
  | 73 => ⟨S_, .f32⟩
  | 74 => ⟨S64x64, .f32⟩
  | 75 => ⟨S64x64, .f32⟩
  | 76 => ⟨S_, .f32⟩
  | 77 => ⟨S_, .f32⟩
  | 78 => ⟨S_, .f32⟩
  | 79 => ⟨S64x64, .i32⟩
  | 80 => ⟨S64x64, .i32⟩
  | 81 => ⟨S64x64, .i32⟩
  | 82 => ⟨S64x64, .f32⟩
  | 83 => ⟨S64x64, .f32⟩
  | 84 => ⟨S64x64, .f32⟩
  | 85 => ⟨S_, .f32⟩
  | 86 => ⟨S64x64, .f32⟩
  | 87 => ⟨S64x64, .f32⟩
  | 88 => ⟨S64x64, .f32⟩
  | 89 => ⟨S_, .f32⟩
  | 90 => ⟨S64x64, .f32⟩
  | 91 => ⟨S64x64, .f32⟩
  | 92 => ⟨S64x64, .f32⟩
  | 93 => ⟨S_, .f32⟩
  | 94 => ⟨S64x64, .f32⟩
  | 95 => ⟨S64x64, .f32⟩
  | 96 => ⟨S_, .f32⟩
  | 97 => ⟨S_, .f32⟩
  | 98 => ⟨S_, .f32⟩
  | 99 => ⟨S64x128, .i32⟩
  | 100 => ⟨S64x128, .i32⟩
  | 101 => ⟨S64x128, .i32⟩
  | 102 => ⟨S64x128, .f32⟩
  | 103 => ⟨S64x128, .f32⟩
  | 104 => ⟨S64x128, .f32⟩
  | 105 => ⟨S_, .f32⟩
  | 106 => ⟨S64x128, .f32⟩
  | 107 => ⟨S64x128, .f32⟩
  | 108 => ⟨S64x128, .f32⟩
  | 109 => ⟨S_, .f32⟩
  | 110 => ⟨S64x128, .f32⟩
  | 111 => ⟨S64x128, .f32⟩
  | 112 => ⟨S64x128, .f32⟩
  | 113 => ⟨S_, .f32⟩
  | 114 => ⟨S64x128, .f32⟩
  | 115 => ⟨S64x128, .f32⟩
  | 116 => ⟨S_, .f32⟩
  | 117 => ⟨S_, .f32⟩
  | 118 => ⟨S_, .f32⟩
  | 119 => ⟨S128x64, .i32⟩
  | 120 => ⟨S128x64, .i32⟩
  | 121 => ⟨S128x64, .i32⟩
  | 122 => ⟨S128x64, .f32⟩
  | 123 => ⟨S128x64, .f32⟩
  | 124 => ⟨S128x64, .f32⟩
  | 125 => ⟨S_, .f32⟩
  | 126 => ⟨S128x64, .f32⟩
  | 127 => ⟨S128x64, .f32⟩
  | _ => ⟨S8x4096x1024, .f32⟩

abbrev hbmTy0_1 (i : Nat) : BufTy := match i % 128 with
  | 0 => ⟨S128x64, .f32⟩
  | 1 => ⟨S_, .f32⟩
  | 2 => ⟨S128x64, .f32⟩
  | 3 => ⟨S128x64, .f32⟩
  | 4 => ⟨S128x64, .f32⟩
  | 5 => ⟨S_, .f32⟩
  | 6 => ⟨S128x64, .f32⟩
  | 7 => ⟨S128x64, .f32⟩
  | 8 => ⟨S8x64x1024x64, .f32⟩
  | 9 => ⟨S8x64x64x1024, .f32⟩
  | 10 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x64x64x128, .f32⟩
  | .local _ .vmem, ⟨1, _⟩ => ⟨S1x64x64x128, .f32⟩
  | .local _ .vmem, ⟨2, _⟩ => ⟨S64x64x128, .f32⟩
  | .local _ .vmem, ⟨3, _⟩ => ⟨S64x64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S64x128, .f32⟩
  | .local _ .vmem, ⟨13, _⟩ => ⟨S64x128, .f32⟩
  | .local _ .vmem, ⟨14, _⟩ => ⟨S128x64, .f32⟩
  | .local _ .vmem, ⟨15, _⟩ => ⟨S128x64, .f32⟩
  | .local _ .vmem, ⟨16, _⟩ => ⟨S1x64x128x64, .f32⟩
  | .local _ .vmem, ⟨17, _⟩ => ⟨S1x64x128x64, .f32⟩
  | .local _ .vmem, ⟨18, _⟩ => ⟨S64x128x128, .f32⟩
  | .local _ .vmem, ⟨19, _⟩ => ⟨S64x128x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_7 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_8 : Ref sig .tc := ⟨.hbm, 53, rfl⟩
abbrev main_v42 : Ref sig .tc := ⟨.hbm, 54, rfl⟩
abbrev main_v43 : Ref sig .tc := ⟨.hbm, 55, rfl⟩
abbrev main_cst_9 : Ref sig .tc := ⟨.hbm, 56, rfl⟩
abbrev main_cst_10 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_11 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_12 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_13 : Ref sig .tc := ⟨.hbm, 73, rfl⟩
abbrev main_v57 : Ref sig .tc := ⟨.hbm, 74, rfl⟩
abbrev main_v58 : Ref sig .tc := ⟨.hbm, 75, rfl⟩
abbrev main_cst_14 : Ref sig .tc := ⟨.hbm, 76, rfl⟩
abbrev main_cst_15 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_16 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_17 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_18 : Ref sig .tc := ⟨.hbm, 93, rfl⟩
abbrev main_v72 : Ref sig .tc := ⟨.hbm, 94, rfl⟩
abbrev main_v73 : Ref sig .tc := ⟨.hbm, 95, rfl⟩
abbrev main_cst_19 : Ref sig .tc := ⟨.hbm, 96, rfl⟩
abbrev main_cst_20 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_21 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_22 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_23 : Ref sig .tc := ⟨.hbm, 113, rfl⟩
abbrev main_v87 : Ref sig .tc := ⟨.hbm, 114, rfl⟩
abbrev main_v88 : Ref sig .tc := ⟨.hbm, 115, rfl⟩
abbrev main_cst_24 : Ref sig .tc := ⟨.hbm, 116, rfl⟩
abbrev main_cst_25 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_26 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_27 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_28 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x64x128x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S8x4096x1024 : Shape := ⟨3, ![8, 4096, 1024]⟩
abbrev S4096x1024 : Shape := ⟨2, ![4096, 1024]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S_ : Shape := ⟨0, ![]⟩
abbrev S4096x4096x1024 : Shape := ⟨3, ![4096, 4096, 1024]⟩
abbrev S1024x8x4096 : Shape := ⟨3, ![1024, 8, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4096x1024, .f32⟩
  | .hbm, ⟨2, _⟩ => ⟨S4096, .i32⟩
  | .hbm, ⟨3, _⟩ => ⟨S4096x1, .i32⟩
  | .hbm, ⟨4, _⟩ => ⟨S4096, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S4096x4096x1, .i1⟩
  | .hbm, ⟨10, _⟩ => ⟨S4096x4096, .i32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S_, .i32⟩
  | .hbm, ⟨20, _⟩ => ⟨S4096x4096, .i32⟩
  | .hbm, ⟨21, _⟩ => ⟨S4096x4096, .i32⟩
  | .hbm, ⟨22, _⟩ => ⟨S4096x4096, .i32⟩
  | .hbm, ⟨23, _⟩ => ⟨S4096x4096x1, .i32⟩
  | .hbm, ⟨24, _⟩ => ⟨S4096x4096x1024, .f32⟩
  | .hbm, ⟨25, _⟩ => ⟨S_, .f32⟩
  | .hbm, ⟨26, _⟩ => ⟨S_, .f32⟩
  | .hbm, ⟨27, _⟩ => ⟨S4096x4096x1024, .i1⟩
  | .hbm, ⟨28, _⟩ => ⟨S4096x4096x1024, .f32⟩
  | .hbm, ⟨29, _⟩ => ⟨S4096x4096x1024, .f32⟩
  | .hbm, ⟨30, _⟩ => ⟨S1024x8x4096, .f32⟩
  | .hbm, ⟨31, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Fourier.lean ====
module

public import Mathlib.Analysis.SpecialFunctions.Trigonometric.Basic
public import Mathlib.Analysis.SpecialFunctions.Complex.Log
public import Mathlib.Algebra.BigOperators.Fin
public import Mathlib.Algebra.BigOperators.Field
public import Mathlib.Algebra.BigOperators.Intervals
public import Mathlib.Algebra.Field.GeomSum

@[expose] public section

noncomputable section

/-! # The split Fourier transform of 8192 points, and the causal sum it computes

A sequence of 4096 numbers, followed by as many zeros, is transformed in two stages of 64 points each; two such transforms
are multiplied and transformed back. The result at `64 m1 + m2` is the causal sum of the two sequences there. -/

namespace Causal

open Finset

/-- The character of the integers with period 8192: `q ↦ exp(2 π i q / 8192)`. -/
def chi (q : ℤ) : ℂ := Complex.exp (2 * Real.pi * Complex.I * q / 8192)

/-- A sum of exponents is a product of values. -/
theorem chi_add (a b : ℤ) : chi (a + b) = chi a * chi b := by
  unfold chi
  rw [← Complex.exp_add]
  congr 1
  push_cast
  ring

/-- The value at exponent zero. -/
theorem chi_zero : chi 0 = 1 := by simp [chi]

/-- The character is one exactly at the multiples of its period. -/
theorem chi_eq_one_iff (q : ℤ) : chi q = 1 ↔ (8192 : ℤ) ∣ q := by
  unfold chi
  rw [Complex.exp_eq_one_iff]
  have hpi : (2 * Real.pi * Complex.I : ℂ) ≠ 0 := Complex.two_pi_I_ne_zero
  constructor
  · rintro ⟨n, h⟩
    refine ⟨n, ?_⟩
    have h1 : (2 * Real.pi * Complex.I : ℂ) * (q - 8192 * n) = 0 := by
      linear_combination (8192 : ℂ) * h
    rcases mul_eq_zero.mp h1 with h2 | h2
    · exact absurd h2 hpi
    · exact_mod_cast sub_eq_zero.mp h2
  · rintro ⟨n, rfl⟩
    exact ⟨n, by push_cast; ring⟩

/-- The values repeat every 8192 exponents. -/
theorem chi_period (a q : ℤ) : chi (a + 8192 * q) = chi a := by
  rw [chi_add, (chi_eq_one_iff _).mpr ⟨q, rfl⟩, mul_one]

/-- A multiple of an exponent is a power of the value. -/
theorem chi_nat_mul (k : ℕ) (q : ℤ) : chi (k * q) = chi q ^ k := by
  unfold chi
  rw [← Complex.exp_nat_mul]
  congr 1
  push_cast
  ring

/-- The character's real part is the cosine of its angle. -/
theorem chi_re (q : ℤ) : (chi q).re = Real.cos (2 * Real.pi * q / 8192) := by
  have h : (2 * Real.pi * Complex.I * q / 8192 : ℂ) = ((2 * Real.pi * q / 8192 : ℝ) : ℂ) * Complex.I := by
    push_cast; ring
  rw [chi, h, Complex.exp_ofReal_mul_I_re]

/-- The character's imaginary part is the sine of its angle. -/
theorem chi_im (q : ℤ) : (chi q).im = Real.sin (2 * Real.pi * q / 8192) := by
  have h : (2 * Real.pi * Complex.I * q / 8192 : ℂ) = ((2 * Real.pi * q / 8192 : ℝ) : ℂ) * Complex.I := by
    push_cast; ring
  rw [chi, h, Complex.exp_ofReal_mul_I_im]

/-- Orthogonality: the character summed over a period. -/
theorem sum_chi (q : ℤ) :
    ∑ k ∈ range 8192, chi (k * q) = if (8192 : ℤ) ∣ q then 8192 else 0 := by
  simp only [chi_nat_mul]
  by_cases h : (8192 : ℤ) ∣ q
  · rw [if_pos h, (chi_eq_one_iff q).mpr h]
    simp
  · rw [if_neg h, geom_sum_eq (fun e => h ((chi_eq_one_iff q).mp e)), ← chi_nat_mul,
      (chi_eq_one_iff _).mpr (by norm_num), sub_self, zero_div]

/-- A sum over the naturals below `a * b`, by quotient and remainder. -/
theorem sum_range_split {M : Type*} [AddCommMonoid M] (a b : ℕ) (f : ℕ → M) :
    ∑ n ∈ range (a * b), f n = ∑ j : Fin b, ∑ i : Fin a, f (b * i + j) := by
  rw [← Fin.sum_univ_eq_sum_range, ← Fintype.sum_equiv finProdFinEquiv (fun p : Fin a × Fin b => f (b * p.1 + p.2))
    (fun n => f n) (fun p => by simp [finProdFinEquiv, add_comm]), Fintype.sum_prod_type, Finset.sum_comm]

/-- The forward transform as the kernel stages it: 64 points over the rows, a twiddle, 64 points over the columns. -/
def fwd (v : ℕ → ℂ) (k2 : ℕ) (k1 : ℕ) : ℂ :=
  ∑ n2 : Fin 64, chi (-(128 * k2 * n2)) * ((∑ n1 : Fin 64, v (64 * n1 + n2) * chi (-(64 * n1 * k1))) * chi (-(n2 * k1)))

/-- The forward transform is the transform of the sequence's 4096 terms at `k1 + 128 k2`. -/
theorem fwd_eq (v : ℕ → ℂ) (k2 k1 : ℕ) :
    fwd v k2 k1 = ∑ n ∈ range 4096, v n * chi (-(n * (k1 + 128 * k2))) := by
  rw [show (4096 : ℕ) = 64 * 64 from rfl, sum_range_split]
  unfold fwd
  refine sum_congr rfl fun n2 _ => ?_
  rw [sum_mul, mul_sum]
  refine sum_congr rfl fun n1 _ => ?_
  have e : (-(((64 * (n1 : ℕ) + (n2 : ℕ) : ℕ) : ℤ) * (k1 + 128 * k2)) : ℤ)
      = (-(128 * k2 * (n2 : ℕ)) + (-(64 * (n1 : ℕ) * k1) + -((n2 : ℕ) * k1))) + 8192 * (-((n1 : ℕ) * k2)) := by
    push_cast; ring
  rw [e, chi_period, chi_add, chi_add]
  ring

/-- The inverse transform as the kernel stages it: 64 points over the high frequencies, a twiddle, 128 points over the
low ones, with the factor 1/8192. -/
def inv (P : ℕ → ℕ → ℂ) (m2 m1 : ℕ) : ℂ :=
  ∑ k1 : Fin 128, ((∑ k2 : Fin 64, chi (128 * m2 * k2) * P k2 k1) * chi (m2 * k1)) * (chi (64 * k1 * m1) / 8192)

/-- The inverse transform is a sum over all 8192 frequencies. -/
theorem inv_eq (Q : ℕ → ℂ) (P : ℕ → ℕ → ℂ) (h : ∀ k2 k1, P k2 k1 = Q (k1 + 128 * k2)) (m2 m1 : ℕ) :
    inv P m2 m1 = (∑ k ∈ range 8192, Q k * chi (k * (64 * m1 + m2))) / 8192 := by
  rw [show (8192 : ℕ) = 64 * 128 from rfl, sum_range_split, sum_div]
  unfold inv
  refine sum_congr rfl fun k1 _ => ?_
  rw [sum_div, sum_mul, sum_mul]
  refine sum_congr rfl fun k2 _ => ?_
  have e : (((128 * (k2 : ℕ) + (k1 : ℕ) : ℕ) : ℤ) * (64 * m1 + m2) : ℤ)
      = (128 * m2 * (k2 : ℕ) + (m2 * (k1 : ℕ) + 64 * (k1 : ℕ) * m1)) + 8192 * ((k2 : ℕ) * m1) := by
    push_cast; ring
  rw [e, chi_period, chi_add, chi_add, h, add_comm (k1 : ℕ)]
  ring

/-- The causal sum: at `i`, the terms `x j` and `t (i - j)` with `j ≤ i`. -/
def causal (x t : ℕ → ℂ) (i : ℕ) : ℂ := ∑ j ∈ range 4096, x j * (if j ≤ i then t (i - j) else 0)

/-- The staged transform of two sequences, multiplied and transformed back, is their causal sum. -/
theorem inv_fwd (x t : ℕ → ℂ) (m2 m1 : ℕ) (hm : 64 * m1 + m2 < 4096) :
    inv (fun k2 k1 => fwd x k2 k1 * fwd t k2 k1) m2 m1 = causal x t (64 * m1 + m2) := by
  rw [inv_eq (fun k => (∑ n ∈ range 4096, x n * chi (-(n * k))) * ∑ n ∈ range 4096, t n * chi (-(n * k)))
    _ (fun k2 k1 => by rw [fwd_eq, fwd_eq]; push_cast; rfl)]
  have e : ∀ k ∈ range 8192, ((∑ n ∈ range 4096, x n * chi (-(n * (k : ℤ)))) * ∑ n ∈ range 4096, t n * chi (-(n * (k : ℤ))))
      * chi (k * (64 * m1 + m2))
      = ∑ a ∈ range 4096, ∑ c ∈ range 4096, x a * t c * chi (k * ((64 * m1 + m2 : ℤ) - a - c)) := by
    intro k _
    rw [sum_mul_sum, sum_mul]
    refine sum_congr rfl fun a _ => ?_
    rw [sum_mul]
    refine sum_congr rfl fun c _ => ?_
    rw [show (k * ((64 * m1 + m2 : ℤ) - a - c) : ℤ) = (-(a * k) + -(c * k)) + k * (64 * m1 + m2) by ring, chi_add, chi_add]
    ring
  rw [sum_congr rfl e, sum_comm, sum_div]
  unfold causal
  refine sum_congr rfl fun a ha => ?_
  rw [sum_comm, sum_div]
  have ha' : a < 4096 := mem_range.mp ha
  have f : ∀ c ∈ range 4096, (∑ k ∈ range 8192, x a * t c * chi (k * ((64 * m1 + m2 : ℤ) - a - c))) / 8192
      = if c = 64 * m1 + m2 - a then (x a * if a ≤ 64 * m1 + m2 then t (64 * m1 + m2 - a) else 0) else 0 := by
    intro c hc
    have hc' : c < 4096 := mem_range.mp hc
    rw [← mul_sum, sum_chi]
    by_cases h : (8192 : ℤ) ∣ ((64 * m1 + m2 : ℤ) - a - c)
    · rw [if_pos h]
      have h1 : a ≤ 64 * m1 + m2 ∧ c = 64 * m1 + m2 - a := by omega
      rw [if_pos h1.2, if_pos h1.1, h1.2]
      field_simp
    · rw [if_neg h]
      by_cases h2 : c = 64 * m1 + m2 - a
      · have h3 : ¬ a ≤ 64 * m1 + m2 := by omega
        rw [if_pos h2, if_neg h3]
        simp
      · rw [if_neg h2]
        simp
  rw [sum_congr rfl f, sum_ite_eq', if_pos (mem_range.mpr (by omega))]

/-- The causal sum of real sequences, over the reals. -/
def causalR (x t : ℕ → ℝ) (i : ℕ) : ℝ := ∑ j ∈ range 4096, x j * (if j ≤ i then t (i - j) else 0)

/-- The causal sum of real sequences, taken over the complex numbers, is real. -/
theorem causal_ofReal (x t : ℕ → ℝ) (i : ℕ) :
    causal (fun n => (x n : ℂ)) (fun n => (t n : ℂ)) i = (causalR x t i : ℂ) := by
  unfold causal causalR
  push_cast
  refine sum_congr rfl fun j _ => ?_
  split_ifs <;> simp

end Causal

end
-- ==== Proof.Sequences.lean ====
module

public import proofs.«01_k».proof.Proof.Fourier
public import Idealize.ShloMosaic.Lib.Pointwise

@[expose] public section

noncomputable section

/-! # The arguments as sequences of reals

Each batch and channel of the signal, and each channel of the filter, is a sequence of 4096 numbers. -/

namespace Causal

open Idealize.ShloMosaic

/-- A real sum is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Batch `b`, channel `d` of the signal, as a sequence of reals. -/
def xs (x : (⟨3, ![8, 4096, 1024]⟩ : Shape).Idx → EReal) (b : Fin 8) (d : Fin 1024) (n : ℕ) : ℝ :=
  (x (ix3 b (⟨n % 4096, Nat.mod_lt _ (by omega)⟩ : Fin 4096) d)).toReal

/-- Channel `d` of the filter, as a sequence of reals. -/
def ts (t : (⟨2, ![4096, 1024]⟩ : Shape).Idx → EReal) (d : Fin 1024) (n : ℕ) : ℝ :=
  (t (ix2 (⟨n % 4096, Nat.mod_lt _ (by omega)⟩ : Fin 4096) d)).toReal

/-- A finite entry of the signal is its sequence's. -/
theorem xs_coe (x : (⟨3, ![8, 4096, 1024]⟩ : Shape).Idx → EReal) (hx : ∀ i, x i ≠ ⊤ ∧ x i ≠ ⊥) (b : Fin 8) (d : Fin 1024)
    (n : Fin 4096) : x (ix3 b n d) = (xs x b d n : EReal) := by
  unfold xs
  rw [EReal.coe_toReal (hx _).1 (hx _).2]
  have h : (⟨n.val % 4096, Nat.mod_lt _ (by omega)⟩ : Fin 4096) = n := Fin.ext (Nat.mod_eq_of_lt n.isLt)
  rw [h]

/-- A finite entry of the filter is its sequence's. -/
theorem ts_coe (t : (⟨2, ![4096, 1024]⟩ : Shape).Idx → EReal) (ht : ∀ i, t i ≠ ⊤ ∧ t i ≠ ⊥) (d : Fin 1024) (n : Fin 4096) :
    t (ix2 n d) = (ts t d n : EReal) := by
  unfold ts
  rw [EReal.coe_toReal (ht _).1 (ht _).2]
  have h : (⟨n.val % 4096, Nat.mod_lt _ (by omega)⟩ : Fin 4096) = n := Fin.ext (Nat.mod_eq_of_lt n.isLt)
  rw [h]

end Causal

end
-- ==== Proof.Reference.lean ====
module

public import proofs.«01_k».proof.Proof.Gen.ReferenceIdeal.Read
public import proofs.«01_k».proof.Proof.Sequences

@[expose] public section

set_option maxRecDepth 16384

noncomputable section

/-! # What the reference computes

Its Toeplitz array holds `t (i - j)` for `j ≤ i` and zero above the diagonal, so its results are the causal sums. -/

namespace Cert.ReferenceIdeal.Sum

open Cert.ReferenceIdeal Cert.ReferenceIdeal.Gen Cert.ReferenceIdeal.Read Idealize.ShloMosaic Idealize.ShloMosaic.TcCoe Idealize.SL.Sem Causal

/-- A small number as a signed word. -/
theorem toInt_small (a : ℕ) (ha : a < 4096) : (BitVec.ofNat 32 a).toInt = (a : ℤ) := by
  have h : (BitVec.ofNat 32 a).toNat = a := by rw [BitVec.toNat_ofNat, Nat.mod_eq_of_lt (by omega)]
  rw [BitVec.toInt_eq_toNat_of_lt (by omega), h]

/-- The difference of two small numbers, in 32 bits. -/
theorem toInt_diff (a b : ℕ) (ha : a < 4096) (hb : b < 4096) :
    (BitVec.ofNat 32 a - BitVec.ofNat 32 b).toInt = (a : ℤ) - b := by
  rw [BitVec.toInt_sub, toInt_small a ha, toInt_small b hb]
  exact Int.bmod_eq_of_le (by norm_num; omega) (by norm_num; omega)

/-- The comparison of two indices. -/
theorem sle_small (a b : ℕ) (ha : a < 4096) (hb : b < 4096) :
    (IntOp.cmpi .sle (BitVec.ofNat 32 a) (BitVec.ofNat 32 b) = 1) ↔ a ≤ b := by
  show BitVec.ofBool ((BitVec.ofNat 32 a).sle (BitVec.ofNat 32 b)) = 1 ↔ _
  rw [BitVec.sle_eq_decide, toInt_small a ha, toInt_small b hb]
  by_cases h : a ≤ b
  · have : ((a : ℤ) ≤ b) := by omega
    simp [h]
  · have : ¬((a : ℤ) ≤ b) := by omega
    simp [h]

/-- The larger of the difference and zero. -/
theorem toInt_max (a b : ℕ) (ha : a < 4096) (hb : b < 4096) :
    (IntOp.maxsi (IntOp.subi (BitVec.ofNat 32 a) (BitVec.ofNat 32 b)) (0#32)).toInt = ((a - b : ℕ) : ℤ) := by
  unfold IntOp.maxsi IntOp.subi
  rw [BitVec.slt_eq_decide, toInt_diff a b ha hb]
  by_cases h : b < a
  · rw [if_pos (by simp; omega), toInt_diff a b ha hb]
    omega
  · rw [if_neg (by simp; omega)]
    simp
    omega

/-- The row that entry `(i, j)` reads. -/
theorem v17_apply (i j : Fin 4096) : (val_main_v17 (F := Ideal) (ix2 i j)).toInt = ((i.val - j.val : ℕ) : ℤ) := by
  have e12 : val_main_v12 (F := Ideal) (ix2 i j) = IntOp.maxsi (IntOp.subi (BitVec.ofNat 32 i.val) (BitVec.ofNat 32 j.val)) (0#32) := by
    rw [val_main_v12_apply, val_main_v10_apply, val_main_v8_apply, val_main_v9_apply, val_main_v11_apply, val_main_v1_apply,
      val_main_v3_apply, val_main_v0_apply, val_main_v2_apply]
    rfl
  have h := toInt_max i j i.isLt j.isLt
  have e14 : val_main_v14 (F := Ideal) (ix2 i j) = 0 := by
    rw [val_main_v14_apply, e12, val_main_v13_apply]
    show BitVec.ofBool ((IntOp.maxsi (IntOp.subi (BitVec.ofNat 32 i.val) (BitVec.ofNat 32 j.val)) (0#32)).slt 0#32) = 0
    rw [BitVec.slt_eq_decide, h, decide_eq_false (show ¬(((i.val - j.val : ℕ) : ℤ) < (0#32).toInt) from by simp)]
    rfl
  rw [val_main_v17_apply, e14, e12]
  exact h

/-- The gathered entry: row `i - j` of the filter. -/
theorem v19_apply (x1 : S4096x1024.Idx → EReal) (i j : Fin 4096) (d : Fin 1024) :
    val_main_v19 (F := Ideal) x1 (ix3 i j d) = x1 (ix2 (⟨i.val - j.val, by omega⟩ : Fin 4096) d) := by
  have e18 : (val_main_v18 (F := Ideal) (ix3 i j (0 : Fin 1))).toInt = ((i.val - j.val : ℕ) : ℤ) := by
    rw [val_main_v18_apply]
    exact v17_apply i j
  unfold val_main_v19 Host.gather
  refine congrArg x1 (funext fun a => Fin.ext ?_)
  generalize val_main_v18 (F := Ideal) = ix at e18
  match a with
  | ⟨0, _⟩ =>
    show GatherDims.start _ (ix3 i j d) ix 0 + GatherDims.batchCoord _ (ix3 i j d) 0 + GatherDims.offCoord _ (ix3 i j d) 0 = i.val - j.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S4096x1024_S4096x4096x1_S4096x4096x1024_2_0_n_n_0_2_11024.startIndexMap from List.mem_singleton.mpr rfl)]
    have hs : gather_S4096x1024_S4096x4096x1_S4096x4096x1024_2_0_n_n_0_2_11024.siIdx (ix3 i j d)
        ⟨List.idxOf (0 : Fin 2) gather_S4096x1024_S4096x4096x1_S4096x4096x1024_2_0_n_n_0_2_11024.startIndexMap,
          List.idxOf_lt_length_iff.2 (List.mem_singleton.mpr rfl)⟩ = ix3 i j (0 : Fin 1) := by
      funext b
      match b with
      | ⟨0, _⟩ => rfl
      | ⟨1, _⟩ => rfl
      | ⟨2, _⟩ => rfl
    rw [hs, e18]
    show min (i.val - j.val) (4096 - 1) + 0 + 0 = i.val - j.val
    omega
  | ⟨1, _⟩ =>
    show GatherDims.start _ (ix3 i j d) ix 1 + GatherDims.batchCoord _ (ix3 i j d) 1 + GatherDims.offCoord _ (ix3 i j d) 1 = d.val
    rw [GatherDims.batchCoord_eq_zero _ _ _ List.not_mem_nil]
    unfold GatherDims.start
    rw [dif_neg (show ¬(1 : Fin 2) ∈ gather_S4096x1024_S4096x4096x1_S4096x4096x1024_2_0_n_n_0_2_11024.startIndexMap from by decide)]
    show 0 + 0 + d.val = d.val
    omega

/-- The Toeplitz array's entry. -/
theorem v20_apply (x1 : S4096x1024.Idx → EReal) (h1 : ∀ i, x1 i ≠ ⊤ ∧ x1 i ≠ ⊥) (i j : Fin 4096) (d : Fin 1024) :
    val_main_v20 (F := Ideal) x1 (ix3 i j d) = ((if j.val ≤ i.val then ts x1 d (i.val - j.val) else 0 : ℝ) : EReal) := by
  have ec : val_main_call0_v1 (F := Ideal) (ix3 i j d) = IntOp.cmpi .sle (BitVec.ofNat 32 j.val) (BitVec.ofNat 32 i.val) := by
    rw [val_main_call0_v1_apply, val_main_v7_apply, val_main_v6_apply, val_main_v4_apply, val_main_v5_apply, val_main_v3_apply,
      val_main_v1_apply, val_main_v2_apply, val_main_v0_apply]
    rfl
  have ez : val_main_call0_v2 (F := Ideal) (ix3 i j d) = ((0 : ℝ) : EReal) := by
    rw [val_main_call0_v2_apply]
    exact Ideal.ofBits_zero_f32
  rw [val_main_v20_apply, ec, ez, v19_apply, ts_coe x1 h1]
  unfold Scalar.select
  by_cases h : j.val ≤ i.val
  · rw [if_pos ((sle_small j i j.isLt i.isLt).mpr h), if_pos h]
  · rw [if_neg (fun e => h ((sle_small j i j.isLt i.isLt).mp e)), if_neg h]

/-- The reference's results are the causal sums. -/
theorem out_apply (x0 : S8x4096x1024.Idx → EReal) (x1 : S4096x1024.Idx → EReal) (h0 : ∀ i, x0 i ≠ ⊤ ∧ x0 i ≠ ⊥)
    (h1 : ∀ i, x1 i ≠ ⊤ ∧ x1 i ≠ ⊥) (b : Fin 8) (n : Fin 4096) (d : Fin 1024) :
    val_main_v22 (F := Ideal) x0 x1 (ix3 b n d) = (causalR (xs x0 b d) (ts x1 d) n : EReal) := by
  rw [val_main_v22_apply, val_main_v21_apply]
  have e : ∀ k : Fin 4096, x0 (lidx_main_v21 (idx_main_v22 (ix3 b n d)) k)
      * val_main_v20 (F := Ideal) x1 (ridx_main_v21 (idx_main_v22 (ix3 b n d)) k)
      = ((xs x0 b d k * (if k.val ≤ n.val then ts x1 d (n.val - k.val) else 0) : ℝ) : EReal) := by
    intro k
    have el : lidx_main_v21 (idx_main_v22 (ix3 b n d)) k = ix3 b k d := by
      funext a
      match a with
      | ⟨0, _⟩ => rfl
      | ⟨1, _⟩ => rfl
      | ⟨2, _⟩ => rfl
    have er : ridx_main_v21 (idx_main_v22 (ix3 b n d)) k = ix3 n k d := by
      funext a
      match a with
      | ⟨0, _⟩ => rfl
      | ⟨1, _⟩ => rfl
      | ⟨2, _⟩ => rfl
    rw [el, er, v20_apply x1 h1, xs_coe x0 h0, ← EReal.coe_mul]
  rw [Finset.sum_congr rfl fun k _ => e k, ← coe_sum]
  unfold causalR
  rw [← Fin.sum_univ_eq_sum_range (fun k => xs x0 b d k * (if k ≤ n.val then ts x1 d (n.val - k) else 0))]

end Cert.ReferenceIdeal.Sum

end
-- ==== Proof.Points.lean ====
module

public import proofs.«01_k».proof.Proof.Gen.KernelIdeal.Frame
public import Idealize.ShloMosaic.Lib.Pipeline.ReadBack
public import Idealize.ShloMosaic.Lib.Pipeline.ValueKit.Acc

@[expose] public section

noncomputable section

/-! # What each grid point computes

The transform of the filter's block, which the first batch of a channel block computes and the others find in the two
scratch arrays, and the block of results. -/

namespace Cert.KernelIdeal.Mix

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The real part of the transform of point `t`'s filter block. -/
def filtRe (c : Dev nD) (t : Fin cfg0.N) : Vec F S64x128x128 .f32 :=
  k0_pay11 (iblk m c 4 t) (iblk m c 5 t) (iblk m c 1 t) (iblk m c 2 t) (iblk m c 3 t) (iblk m c 6 t) (iblk m c 7 t)

/-- The imaginary part of the transform of point `t`'s filter block. -/
def filtIm (c : Dev nD) (t : Fin cfg0.N) : Vec F S64x128x128 .f32 :=
  k0_pay12 (iblk m c 4 t) (iblk m c 5 t) (iblk m c 1 t) (iblk m c 2 t) (iblk m c 3 t) (iblk m c 6 t) (iblk m c 7 t)

/-- The block of results from the fourteen input blocks and the transform of the filter. -/
def mixOf (x0 : Vec F S1x64x64x128 .f32) (x2 x3 x4 x5 : Vec F S64x128 .f32) (x6 x7 x8 x9 : Vec F S64x64 .f32)
    (x10 x11 : Vec F S64x128 .f32) (x12 x13 : Vec F S128x64 .f32) (s0 s1 : Vec F S64x128x128 .f32) : Vec F S1x64x128x64 .f32 :=
  k0_pay1
    (k0_pay30 (k0_pay14 x6) (k0_pay15 x7) (k0_pay18 x4 x5 x0 x2 x3) (k0_pay19 x4 x5 x0 x2 x3) (k0_pay20 x4 x5 x0 x2 x3 x6 x7)
      (constant S64x128x128 .f32 0x00000000#32) s0 s1 x8 x9 x10 x11)
    (k0_pay31 (k0_pay14 x6) (k0_pay15 x7) (k0_pay18 x4 x5 x0 x2 x3) (k0_pay19 x4 x5 x0 x2 x3) (k0_pay20 x4 x5 x0 x2 x3 x6 x7)
      (constant S64x128x128 .f32 0x00000000#32) s0 s1 x8 x9 x10 x11)
    (k0_pay32 x12) x13

/-- The block of results at point `t`, over a transform of the filter. -/
def mixAt (c : Dev nD) (t : Fin cfg0.N) (s0 s1 : Vec F S64x128x128 .f32) : Vec F S1x64x128x64 .f32 :=
  mixOf (iblk m c 0 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) s0 s1

/-- The first batch of a channel block leaves the transform of the filter's block in the first scratch array … -/
theorem first_re (c : Dev nD) (t : Fin cfg0.N) (h0 : t.val % 8 = 0) : (outsAt0 m c t.val t.isLt).2.1 = filtRe m c t := by
  rw [outsAt0_A m c t h0]
  frame_out [sout0_A_0]
  rfl

/-- … and in the second. -/
theorem first_im (c : Dev nD) (t : Fin cfg0.N) (h0 : t.val % 8 = 0) : (outsAt0 m c t.val t.isLt).2.2 = filtIm m c t := by
  rw [outsAt0_A m c t h0]
  frame_out [sout0_A_1]
  rfl

/-- The first batch's block of results is over the transform it has just computed. -/
theorem first_out (c : Dev nD) (t : Fin cfg0.N) (h0 : t.val % 8 = 0) :
    (outsAt0 m c t.val t.isLt).1 = mixAt m c t (filtRe m c t) (filtIm m c t) := by
  rw [outsAt0_A m c t h0]
  frame_out [out0_A_14]
  rfl

/-- The other batches leave the scratch arrays as they find them … -/
theorem later_re (c : Dev nD) (t : Fin cfg0.N) (h0 : ¬t.val % 8 = 0) :
    (outsAt0 m c t.val t.isLt).2.1 = (outsAt0 m c (t.val - 1) (Nat.lt_of_le_of_lt (Nat.sub_le _ _) t.isLt)).2.1 := by
  rw [outsAt0_B m c t h0]
  rfl

/-- … both of them … -/
theorem later_im (c : Dev nD) (t : Fin cfg0.N) (h0 : ¬t.val % 8 = 0) :
    (outsAt0 m c t.val t.isLt).2.2 = (outsAt0 m c (t.val - 1) (Nat.lt_of_le_of_lt (Nat.sub_le _ _) t.isLt)).2.2 := by
  rw [outsAt0_B m c t h0]
  rfl

/-- … and take the transform from them. -/
theorem later_out (c : Dev nD) (t : Fin cfg0.N) (h0 : ¬t.val % 8 = 0) :
    (outsAt0 m c t.val t.isLt).1 = mixAt m c t (outsAt0 m c (t.val - 1) (Nat.lt_of_le_of_lt (Nat.sub_le _ _) t.isLt)).2.1
      (outsAt0 m c (t.val - 1) (Nat.lt_of_le_of_lt (Nat.sub_le _ _) t.isLt)).2.2 := by
  rw [outsAt0_B m c t h0]
  frame_out [out0_B_14]
  rw [read_unread_whole, read_unread_whole]
  rfl

end Cert.KernelIdeal.Mix

end
-- ==== Proof.Blocks.lean ====
module

public import proofs.«01_k».proof.Proof.Points

@[expose] public section

noncomputable section

/-! # The input blocks, read off the arrays

Point `8 di + b` takes batch `b` and the 128 channels from `128 di` on; the twelve tables are taken whole at every point. -/

namespace Cert.KernelIdeal.Mix

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The block that operand 0 has at each grid point. -/
theorem idx_facts0 : ∀ t : Fin cfg0.N, win0_0.index t (0 : Fin 4) = t.val % 8 ∧ win0_0.index t (1 : Fin 4) = 0
    ∧ win0_0.index t (2 : Fin 4) = 0 ∧ win0_0.index t (3 : Fin 4) = t.val / 8 :=
  (by decide +kernel : ∀ t : Fin grid0.N, _)

/-- The block that operand 1 has at each grid point. -/
theorem idx_facts1 : ∀ t : Fin cfg0.N, win0_1.index t (0 : Fin 3) = 0 ∧ win0_1.index t (1 : Fin 3) = 0
    ∧ win0_1.index t (2 : Fin 3) = t.val / 8 :=
  (by decide +kernel : ∀ t : Fin grid0.N, _)

/-- The signal's block at point `t`: batch `t % 8`, the channels from `128 (t / 8)` on. -/
theorem iblk_0 (c : Dev nD) (t : Fin cfg0.N) (y : S1x64x64x128.Idx) (k : S8x64x64x1024.Idx)
    (h0 : (k 0).val = t.val % 8) (h1 : (k 1).val = (y 1).val) (h2 : (k 2).val = (y 2).val)
    (h3 : (k 3).val = 128 * (t.val / 8) + (y 3).val) :
    (iblk m c 0 t : Vec F S1x64x64x128 .f32) y = (V m c main_v0 : S8x64x64x1024.Idx → Elt F .f32) k := by
  obtain ⟨e0, e1, e2, e3⟩ := idx_facts0 t
  have hy0 : (y 0).val < 1 := (y 0).isLt
  unfold iblk
  rw [View.read_apply, cast_eq]
  refine congrArg (V m c main_v0 : S8x64x64x1024.Idx → Elt F .f32) (funext fun a => Fin.ext ?_)
  match a with
  | ⟨0, _⟩ => show win0_0.index t (0 : Fin 4) * 1 + 1 * (y 0).val = (k 0).val; omega
  | ⟨1, _⟩ => show win0_0.index t (1 : Fin 4) * 64 + 1 * (y 1).val = (k 1).val; omega
  | ⟨2, _⟩ => show win0_0.index t (2 : Fin 4) * 64 + 1 * (y 2).val = (k 2).val; omega
  | ⟨3, _⟩ => show win0_0.index t (3 : Fin 4) * 128 + 1 * (y 3).val = (k 3).val; omega

/-- The filter's block at point `t`: the channels from `128 (t / 8)` on. -/
theorem iblk_1 (c : Dev nD) (t : Fin cfg0.N) (y : S64x64x128.Idx) (k : S64x64x1024.Idx)
    (h0 : (k 0).val = (y 0).val) (h1 : (k 1).val = (y 1).val) (h2 : (k 2).val = 128 * (t.val / 8) + (y 2).val) :
    (iblk m c 1 t : Vec F S64x64x128 .f32) y = (V m c main_v1 : S64x64x1024.Idx → Elt F .f32) k := by
  obtain ⟨e0, e1, e2⟩ := idx_facts1 t
  unfold iblk
  rw [View.read_apply, cast_eq]
  refine congrArg (V m c main_v1 : S64x64x1024.Idx → Elt F .f32) (funext fun a => Fin.ext ?_)
  match a with
  | ⟨0, _⟩ => show win0_1.index t (0 : Fin 3) * 64 + 1 * (y 0).val = (k 0).val; omega
  | ⟨1, _⟩ => show win0_1.index t (1 : Fin 3) * 64 + 1 * (y 1).val = (k 1).val; omega
  | ⟨2, _⟩ => show win0_1.index t (2 : Fin 3) * 128 + 1 * (y 2).val = (k 2).val; omega

/-- The block that operand 2 has at each grid point. -/
theorem idx_facts2 : ∀ t : Fin cfg0.N, win0_2.index t (0 : Fin 2) = 0 ∧ win0_2.index t (1 : Fin 2) = 0 :=
  (by decide +kernel : ∀ t : Fin grid0.N, _)

/-- Window 2's block is its table, at every point. -/
theorem iblk_2 (c : Dev nD) (t : Fin cfg0.N) :
    (iblk m c 2 t : Vec F S64x128 .f32) = (V m c main_v25 : S64x128.Idx → Elt F .f32) := by
  obtain ⟨e0, e1⟩ := idx_facts2 t
  funext y
  unfold iblk
  rw [View.read_apply, cast_eq]
  refine congrArg (V m c main_v25 : S64x128.Idx → Elt F .f32) (funext fun a => Fin.ext ?_)
  match a with
  | ⟨0, _⟩ => show win0_2.index t (0 : Fin 2) * 64 + 1 * (y 0).val = (y 0).val; omega
  | ⟨1, _⟩ => show win0_2.index t (1 : Fin 2) * 128 + 1 * (y 1).val = (y 1).val; omega

/-- The block that operand 3 has at each grid point. -/
theorem idx_facts3 : ∀ t : Fin cfg0.N, win0_3.index t (0 : Fin 2) = 0 ∧ win0_3.index t (1 : Fin 2) = 0 :=
  (by decide +kernel : ∀ t : Fin grid0.N, _)

/-- Window 3's block is its table, at every point. -/
theorem iblk_3 (c : Dev nD) (t : Fin cfg0.N) :
    (iblk m c 3 t : Vec F S64x128 .f32) = (V m c main_v28 : S64x128.Idx → Elt F .f32) := by
  obtain ⟨e0, e1⟩ := idx_facts3 t
  funext y
  unfold iblk
  rw [View.read_apply, cast_eq]
  refine congrArg (V m c main_v28 : S64x128.Idx → Elt F .f32) (funext fun a => Fin.ext ?_)
  match a with
  | ⟨0, _⟩ => show win0_3.index t (0 : Fin 2) * 64 + 1 * (y 0).val = (y 0).val; omega
  | ⟨1, _⟩ => show win0_3.index t (1 : Fin 2) * 128 + 1 * (y 1).val = (y 1).val; omega

/-- The block that operand 4 has at each grid point. -/
theorem idx_facts4 : ∀ t : Fin cfg0.N, win0_4.index t (0 : Fin 2) = 0 ∧ win0_4.index t (1 : Fin 2) = 0 :=
  (by decide +kernel : ∀ t : Fin grid0.N, _)

/-- Window 4's block is its table, at every point. -/
theorem iblk_4 (c : Dev nD) (t : Fin cfg0.N) :
    (iblk m c 4 t : Vec F S64x128 .f32) = (V m c main_v40 : S64x128.Idx → Elt F .f32) := by
  obtain ⟨e0, e1⟩ := idx_facts4 t
  funext y
  unfold iblk
  rw [View.read_apply, cast_eq]
  refine congrArg (V m c main_v40 : S64x128.Idx → Elt F .f32) (funext fun a => Fin.ext ?_)
  match a with
  | ⟨0, _⟩ => show win0_4.index t (0 : Fin 2) * 64 + 1 * (y 0).val = (y 0).val; omega
  | ⟨1, _⟩ => show win0_4.index t (1 : Fin 2) * 128 + 1 * (y 1).val = (y 1).val; omega

/-- The block that operand 5 has at each grid point. -/
theorem idx_facts5 : ∀ t : Fin cfg0.N, win0_5.index t (0 : Fin 2) = 0 ∧ win0_5.index t (1 : Fin 2) = 0 :=
  (by decide +kernel : ∀ t : Fin grid0.N, _)

/-- Window 5's block is its table, at every point. -/
theorem iblk_5 (c : Dev nD) (t : Fin cfg0.N) :
    (iblk m c 5 t : Vec F S64x128 .f32) = (V m c main_v43 : S64x128.Idx → Elt F .f32) := by
  obtain ⟨e0, e1⟩ := idx_facts5 t
  funext y
  unfold iblk
  rw [View.read_apply, cast_eq]
  refine congrArg (V m c main_v43 : S64x128.Idx → Elt F .f32) (funext fun a => Fin.ext ?_)
  match a with
  | ⟨0, _⟩ => show win0_5.index t (0 : Fin 2) * 64 + 1 * (y 0).val = (y 0).val; omega
  | ⟨1, _⟩ => show win0_5.index t (1 : Fin 2) * 128 + 1 * (y 1).val = (y 1).val; omega

/-- The block that operand 6 has at each grid point. -/
theorem idx_facts6 : ∀ t : Fin cfg0.N, win0_6.index t (0 : Fin 2) = 0 ∧ win0_6.index t (1 : Fin 2) = 0 :=
  (by decide +kernel : ∀ t : Fin grid0.N, _)

/-- Window 6's block is its table, at every point. -/
theorem iblk_6 (c : Dev nD) (t : Fin cfg0.N) :
    (iblk m c 6 t : Vec F S64x64 .f32) = (V m c main_v55 : S64x64.Idx → Elt F .f32) := by
  obtain ⟨e0, e1⟩ := idx_facts6 t
  funext y
  unfold iblk
  rw [View.read_apply, cast_eq]
  refine congrArg (V m c main_v55 : S64x64.Idx → Elt F .f32) (funext fun a => Fin.ext ?_)
  match a with
  | ⟨0, _⟩ => show win0_6.index t (0 : Fin 2) * 64 + 1 * (y 0).val = (y 0).val; omega
  | ⟨1, _⟩ => show win0_6.index t (1 : Fin 2) * 64 + 1 * (y 1).val = (y 1).val; omega

/-- The block that operand 7 has at each grid point. -/
theorem idx_facts7 : ∀ t : Fin cfg0.N, win0_7.index t (0 : Fin 2) = 0 ∧ win0_7.index t (1 : Fin 2) = 0 :=
  (by decide +kernel : ∀ t : Fin grid0.N, _)

/-- Window 7's block is its table, at every point. -/
theorem iblk_7 (c : Dev nD) (t : Fin cfg0.N) :
    (iblk m c 7 t : Vec F S64x64 .f32) = (V m c main_v58 : S64x64.Idx → Elt F .f32) := by
  obtain ⟨e0, e1⟩ := idx_facts7 t
  funext y
  unfold iblk
  rw [View.read_apply, cast_eq]
  refine congrArg (V m c main_v58 : S64x64.Idx → Elt F .f32) (funext fun a => Fin.ext ?_)
  match a with
  | ⟨0, _⟩ => show win0_7.index t (0 : Fin 2) * 64 + 1 * (y 0).val = (y 0).val; omega
  | ⟨1, _⟩ => show win0_7.index t (1 : Fin 2) * 64 + 1 * (y 1).val = (y 1).val; omega

/-- The block that operand 8 has at each grid point. -/
theorem idx_facts8 : ∀ t : Fin cfg0.N, win0_8.index t (0 : Fin 2) = 0 ∧ win0_8.index t (1 : Fin 2) = 0 :=
  (by decide +kernel : ∀ t : Fin grid0.N, _)

/-- Window 8's block is its table, at every point. -/
theorem iblk_8 (c : Dev nD) (t : Fin cfg0.N) :
    (iblk m c 8 t : Vec F S64x64 .f32) = (V m c main_v70 : S64x64.Idx → Elt F .f32) := by
  obtain ⟨e0, e1⟩ := idx_facts8 t
  funext y
  unfold iblk
  rw [View.read_apply, cast_eq]
  refine congrArg (V m c main_v70 : S64x64.Idx → Elt F .f32) (funext fun a => Fin.ext ?_)
  match a with
  | ⟨0, _⟩ => show win0_8.index t (0 : Fin 2) * 64 + 1 * (y 0).val = (y 0).val; omega
  | ⟨1, _⟩ => show win0_8.index t (1 : Fin 2) * 64 + 1 * (y 1).val = (y 1).val; omega

/-- The block that operand 9 has at each grid point. -/
theorem idx_facts9 : ∀ t : Fin cfg0.N, win0_9.index t (0 : Fin 2) = 0 ∧ win0_9.index t (1 : Fin 2) = 0 :=
  (by decide +kernel : ∀ t : Fin grid0.N, _)

/-- Window 9's block is its table, at every point. -/
theorem iblk_9 (c : Dev nD) (t : Fin cfg0.N) :
    (iblk m c 9 t : Vec F S64x64 .f32) = (V m c main_v73 : S64x64.Idx → Elt F .f32) := by
  obtain ⟨e0, e1⟩ := idx_facts9 t
  funext y
  unfold iblk
  rw [View.read_apply, cast_eq]
  refine congrArg (V m c main_v73 : S64x64.Idx → Elt F .f32) (funext fun a => Fin.ext ?_)
  match a with
  | ⟨0, _⟩ => show win0_9.index t (0 : Fin 2) * 64 + 1 * (y 0).val = (y 0).val; omega
  | ⟨1, _⟩ => show win0_9.index t (1 : Fin 2) * 64 + 1 * (y 1).val = (y 1).val; omega

/-- The block that operand 10 has at each grid point. -/
theorem idx_facts10 : ∀ t : Fin cfg0.N, win0_10.index t (0 : Fin 2) = 0 ∧ win0_10.index t (1 : Fin 2) = 0 :=
  (by decide +kernel : ∀ t : Fin grid0.N, _)

/-- Window 10's block is its table, at every point. -/
theorem iblk_10 (c : Dev nD) (t : Fin cfg0.N) :
    (iblk m c 10 t : Vec F S64x128 .f32) = (V m c main_v85 : S64x128.Idx → Elt F .f32) := by
  obtain ⟨e0, e1⟩ := idx_facts10 t
  funext y
  unfold iblk
  rw [View.read_apply, cast_eq]
  refine congrArg (V m c main_v85 : S64x128.Idx → Elt F .f32) (funext fun a => Fin.ext ?_)
  match a with
  | ⟨0, _⟩ => show win0_10.index t (0 : Fin 2) * 64 + 1 * (y 0).val = (y 0).val; omega
  | ⟨1, _⟩ => show win0_10.index t (1 : Fin 2) * 128 + 1 * (y 1).val = (y 1).val; omega

/-- The block that operand 11 has at each grid point. -/
theorem idx_facts11 : ∀ t : Fin cfg0.N, win0_11.index t (0 : Fin 2) = 0 ∧ win0_11.index t (1 : Fin 2) = 0 :=
  (by decide +kernel : ∀ t : Fin grid0.N, _)

/-- Window 11's block is its table, at every point. -/
theorem iblk_11 (c : Dev nD) (t : Fin cfg0.N) :
    (iblk m c 11 t : Vec F S64x128 .f32) = (V m c main_v88 : S64x128.Idx → Elt F .f32) := by
  obtain ⟨e0, e1⟩ := idx_facts11 t
  funext y
  unfold iblk
  rw [View.read_apply, cast_eq]
  refine congrArg (V m c main_v88 : S64x128.Idx → Elt F .f32) (funext fun a => Fin.ext ?_)
  match a with
  | ⟨0, _⟩ => show win0_11.index t (0 : Fin 2) * 64 + 1 * (y 0).val = (y 0).val; omega
  | ⟨1, _⟩ => show win0_11.index t (1 : Fin 2) * 128 + 1 * (y 1).val = (y 1).val; omega

/-- The block that operand 12 has at each grid point. -/
theorem idx_facts12 : ∀ t : Fin cfg0.N, win0_12.index t (0 : Fin 2) = 0 ∧ win0_12.index t (1 : Fin 2) = 0 :=
  (by decide +kernel : ∀ t : Fin grid0.N, _)

/-- Window 12's block is its table, at every point. -/
theorem iblk_12 (c : Dev nD) (t : Fin cfg0.N) :
    (iblk m c 12 t : Vec F S128x64 .f32) = (V m c main_v100 : S128x64.Idx → Elt F .f32) := by
  obtain ⟨e0, e1⟩ := idx_facts12 t
  funext y
  unfold iblk
  rw [View.read_apply, cast_eq]
  refine congrArg (V m c main_v100 : S128x64.Idx → Elt F .f32) (funext fun a => Fin.ext ?_)
  match a with
  | ⟨0, _⟩ => show win0_12.index t (0 : Fin 2) * 128 + 1 * (y 0).val = (y 0).val; omega
  | ⟨1, _⟩ => show win0_12.index t (1 : Fin 2) * 64 + 1 * (y 1).val = (y 1).val; omega

/-- The block that operand 13 has at each grid point. -/
theorem idx_facts13 : ∀ t : Fin cfg0.N, win0_13.index t (0 : Fin 2) = 0 ∧ win0_13.index t (1 : Fin 2) = 0 :=
  (by decide +kernel : ∀ t : Fin grid0.N, _)

/-- Window 13's block is its table, at every point. -/
theorem iblk_13 (c : Dev nD) (t : Fin cfg0.N) :
    (iblk m c 13 t : Vec F S128x64 .f32) = (V m c main_v103 : S128x64.Idx → Elt F .f32) := by
  obtain ⟨e0, e1⟩ := idx_facts13 t
  funext y
  unfold iblk
  rw [View.read_apply, cast_eq]
  refine congrArg (V m c main_v103 : S128x64.Idx → Elt F .f32) (funext fun a => Fin.ext ?_)
  match a with
  | ⟨0, _⟩ => show win0_13.index t (0 : Fin 2) * 128 + 1 * (y 0).val = (y 0).val; omega
  | ⟨1, _⟩ => show win0_13.index t (1 : Fin 2) * 64 + 1 * (y 1).val = (y 1).val; omega

/-- Two points of one channel block have one filter block. -/
theorem iblk_1_congr (c : Dev nD) (t t' : Fin cfg0.N) (h : t.val / 8 = t'.val / 8) :
    (iblk m c 1 t : Vec F S64x64x128 .f32) = (iblk m c 1 t' : Vec F S64x64x128 .f32) := by
  funext y
  have hN : t.val < 64 := lt_of_lt_of_eq t.isLt N_0
  have hy2 : (y 2).val < 128 := (y 2).isLt
  let k : S64x64x1024.Idx := fun a => match a with
    | ⟨0, _⟩ => ⟨(y 0).val, (y 0).isLt⟩
    | ⟨1, _⟩ => ⟨(y 1).val, (y 1).isLt⟩
    | ⟨2, _⟩ => ⟨128 * (t.val / 8) + (y 2).val, by show _ < 1024; omega⟩
  rw [iblk_1 m c t y k rfl rfl rfl, iblk_1 m c t' y k rfl rfl (by rw [← h])]

/-- Points of one channel block have the same filter transform: its real part … -/
theorem filtRe_congr (c : Dev nD) (t t' : Fin cfg0.N) (h : t.val / 8 = t'.val / 8) : filtRe m c t = filtRe m c t' := by
  unfold filtRe
  rw [iblk_1_congr m c t t' h, iblk_2 m c t, iblk_2 m c t', iblk_3 m c t, iblk_3 m c t', iblk_4 m c t, iblk_4 m c t',
    iblk_5 m c t, iblk_5 m c t', iblk_6 m c t, iblk_6 m c t', iblk_7 m c t, iblk_7 m c t']

/-- … and its imaginary part. -/
theorem filtIm_congr (c : Dev nD) (t t' : Fin cfg0.N) (h : t.val / 8 = t'.val / 8) : filtIm m c t = filtIm m c t' := by
  unfold filtIm
  rw [iblk_1_congr m c t t' h, iblk_2 m c t, iblk_2 m c t', iblk_3 m c t, iblk_3 m c t', iblk_4 m c t, iblk_4 m c t',
    iblk_5 m c t, iblk_5 m c t', iblk_6 m c t, iblk_6 m c t', iblk_7 m c t, iblk_7 m c t']

/-- After every point the scratch arrays hold the transform of that point's filter block. -/
theorem scratch (c : Dev nD) : ∀ (n : ℕ) (hn : n < cfg0.N),
    (outsAt0 m c n hn).2.1 = filtRe m c ⟨n, hn⟩ ∧ (outsAt0 m c n hn).2.2 = filtIm m c ⟨n, hn⟩ := by
  intro n
  induction n with
  | zero => exact fun hn => ⟨first_re m c ⟨0, hn⟩ rfl, first_im m c ⟨0, hn⟩ rfl⟩
  | succ n ih =>
    intro hn
    by_cases h0 : (n + 1) % 8 = 0
    · exact ⟨first_re m c ⟨n + 1, hn⟩ h0, first_im m c ⟨n + 1, hn⟩ h0⟩
    · have h := ih (Nat.lt_of_succ_lt hn)
      have hd : n / 8 = (n + 1) / 8 := by omega
      exact ⟨(later_re m c ⟨n + 1, hn⟩ h0).trans (h.1.trans (filtRe_congr m c ⟨n, _⟩ ⟨n + 1, hn⟩ hd)),
        (later_im m c ⟨n + 1, hn⟩ h0).trans (h.2.trans (filtIm_congr m c ⟨n, _⟩ ⟨n + 1, hn⟩ hd))⟩

/-- Every point's block of results is over the transform of that point's filter block. -/
theorem out_eq (c : Dev nD) (t : Fin cfg0.N) :
    (outsAt0 m c t.val t.isLt).1 = mixAt m c t (filtRe m c t) (filtIm m c t) := by
  by_cases h0 : t.val % 8 = 0
  · exact first_out m c t h0
  · have h := scratch m c (t.val - 1) (Nat.lt_of_le_of_lt (Nat.sub_le _ _) t.isLt)
    have hd : (t.val - 1) / 8 = t.val / 8 := by omega
    rw [later_out m c t h0, h.1, h.2, filtRe_congr m c ⟨t.val - 1, _⟩ t hd, filtIm_congr m c ⟨t.val - 1, _⟩ t hd]

end Cert.KernelIdeal.Mix

end
-- ==== Proof.Array.lean ====
module

public import proofs.«01_k».proof.Proof.Blocks
public import proofs.«01_k».proof.Proof.Gen.KernelIdeal.Run
public import Idealize.ShloMosaic.Lib.Pipeline.Value

@[expose] public section

noncomputable section

/-! # What the result array holds

The blocks of the 64 points tile it: the entry for batch `b` and channel `128 di + d` is point `8 di + b`'s. -/

namespace Cert.KernelIdeal.Mix

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The block of results that point `t` writes. -/
def blockAt (c : Dev nD) (t : Fin cfg0.N) : Vec F S1x64x128x64 .f32 := mixAt m c t (filtRe m c t) (filtIm m c t)

/-- The point whose block holds the entry `i`. -/
def ptOf (i : S8x64x1024x64.Idx) : Fin cfg0.N :=
  ⟨(i 0).val + 8 * ((i 2).val / 128), by
    have h0 : (i 0).val < 8 := (i 0).isLt
    have h2 : (i 2).val < 1024 := (i 2).isLt
    exact lt_of_lt_of_eq (by omega) N_0.symm⟩

/-- Where in that block. -/
def locOf (i : S8x64x1024x64.Idx) : S1x64x128x64.Idx := fun a => match a with
  | ⟨0, _⟩ => ⟨0, by show 0 < 1; omega⟩
  | ⟨1, _⟩ => ⟨(i 1).val, (i 1).isLt⟩
  | ⟨2, _⟩ => ⟨(i 2).val % 128, by show _ < 128; omega⟩
  | ⟨3, _⟩ => ⟨(i 3).val, (i 3).isLt⟩

/-- The result array, entry by entry. -/
def arr (c : Dev nD) : S8x64x1024x64.Idx → Elt F .f32 := fun i => blockAt m c (ptOf i) (locOf i)

/-- The block that operand 14 has at each grid point. -/
theorem idx_facts14 : ∀ t : Fin cfg0.N, win0_14.index t (0 : Fin 4) = t.val % 8 ∧ win0_14.index t (1 : Fin 4) = 0
    ∧ win0_14.index t (2 : Fin 4) = t.val / 8 ∧ win0_14.index t (3 : Fin 4) = 0 ∧ win0_14.flush t = true :=
  (by decide +kernel : ∀ t : Fin grid0.N, _)

/-- Point `t` writes back its block of `arr`. -/
theorem flushed14 (c : Dev nD) (t : Fin cfg0.N) :
    (dats m 0 c).flushed 14 t = ((cfg0.win 14).blk t).view.read (Elt F) (arr m c) := by
  show (cfg0.win 14).cut (grid0.coords t) ((dats m 0 c).after 14 t) = _
  rw [after0_14, out_eq]
  obtain ⟨e0, e1, e2, e3, -⟩ := idx_facts14 t
  have hN : t.val < 64 := lt_of_lt_of_eq t.isLt N_0
  funext y
  have hy0 : (y 0).val < 1 := (y 0).isLt
  have hy2 : (y 2).val < 128 := (y 2).isLt
  have hb0 : (((cfg0.win 14).blk t).view.emb y 0).val = win0_14.index t (0 : Fin 4) * 1 + 1 * (y 0).val := rfl
  have hb1 : (((cfg0.win 14).blk t).view.emb y 1).val = win0_14.index t (1 : Fin 4) * 64 + 1 * (y 1).val := rfl
  have hb2 : (((cfg0.win 14).blk t).view.emb y 2).val = win0_14.index t (2 : Fin 4) * 128 + 1 * (y 2).val := rfl
  have hb3 : (((cfg0.win 14).blk t).view.emb y 3).val = win0_14.index t (3 : Fin 4) * 64 + 1 * (y 3).val := rfl
  have hp : ptOf (((cfg0.win 14).blk t).view.emb y) = t := by
    apply Fin.ext
    show (((cfg0.win 14).blk t).view.emb y 0).val + 8 * ((((cfg0.win 14).blk t).view.emb y 2).val / 128) = t.val
    rw [hb0, hb2, e0, e2]
    omega
  have hl : locOf (((cfg0.win 14).blk t).view.emb y) = (cfg0.win 14).xinj (grid0.coords t) y := by
    funext a
    apply Fin.ext
    match a with
    | ⟨0, _⟩ => show 0 = (y 0).val; omega
    | ⟨1, _⟩ => show (((cfg0.win 14).blk t).view.emb y 1).val = (y 1).val; rw [hb1]; omega
    | ⟨2, _⟩ => show (((cfg0.win 14).blk t).view.emb y 2).val % 128 = (y 2).val; rw [hb2]; omega
    | ⟨3, _⟩ => show (((cfg0.win 14).blk t).view.emb y 3).val = (y 3).val; rw [hb3]; omega
  show blockAt m c t ((cfg0.win 14).xinj (grid0.coords t) y) = arr m c (((cfg0.win 14).blk t).view.emb y)
  unfold arr
  rw [hp, hl]

/-- Every entry lies in its point's block. -/
theorem covered14 (i : S8x64x1024x64.Idx) :
    ∃ t : Fin cfg0.N, (cfg0.win 14).flush t = true ∧ i ∈ ((cfg0.win 14).blk t).view.set := by
  obtain ⟨e0, e1, e2, e3, hf⟩ := idx_facts14 (ptOf i)
  have hi0 : (i 0).val < 8 := (i 0).isLt
  have hi1 : (i 1).val < 64 := (i 1).isLt
  have hi2 : (i 2).val < 1024 := (i 2).isLt
  have hi3 : (i 3).val < 64 := (i 3).isLt
  have hv : (ptOf i).val = (i 0).val + 8 * ((i 2).val / 128) := rfl
  refine ⟨ptOf i, hf, ?_⟩
  show i ∈ ((View.whole main_v104).slice (win0_14.rect (ptOf i))).set
  rw [View.set_slice_whole, Rect.mem_set_unit]
  intro a
  match a with
  | ⟨0, _⟩ => show win0_14.index (ptOf i) (0 : Fin 4) * 1 ≤ (i 0).val ∧ (i 0).val < win0_14.index (ptOf i) (0 : Fin 4) * 1 + 1; omega
  | ⟨1, _⟩ => show win0_14.index (ptOf i) (1 : Fin 4) * 64 ≤ (i 1).val ∧ (i 1).val < win0_14.index (ptOf i) (1 : Fin 4) * 64 + 64; omega
  | ⟨2, _⟩ => show win0_14.index (ptOf i) (2 : Fin 4) * 128 ≤ (i 2).val ∧ (i 2).val < win0_14.index (ptOf i) (2 : Fin 4) * 128 + 128; omega
  | ⟨3, _⟩ => show win0_14.index (ptOf i) (3 : Fin 4) * 64 ≤ (i 3).val ∧ (i 3).val < win0_14.index (ptOf i) (3 : Fin 4) * 64 + 64; omega

/-- After the run the result array is `arr`. -/
theorem final14 (c : Dev nD) : Value.reg_main_v104 m c = arr m c :=
  (dats m 0 c).arrAt_eq_of_cover 14 _ (fun t _ => flushed14 m c t) covered14

end Cert.KernelIdeal.Mix

end
-- ==== Proof.Tables.lean ====
module

public import proofs.«01_k».proof.Proof.Gen.KernelIdeal.Frame
public import Idealize.ShloMosaic.Lib.StableHlo.Run

@[expose] public section

noncomputable section

/-! # The arrays the host hands the kernel

The two arguments reshaped, and the six pairs of tables: cosines and sines of the angles `p q π k`, times a scale. -/

namespace Cert.KernelIdeal.Mix

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The constant π, as the host computes it. -/
def hostPi : FVec F S_ .f32 := Host.atan2 (constant S_ .f32 0x00000000#32) (constant S_ .f32 0xBF800000#32)

/-- The angles `p q π k` over the 64 × 128 pairs. -/
def angle64x128 (k : BitVec 32) : FVec F S64x128 .f32 :=
  mulf (mulf (sitofp .f32 (muli (broadcastInDim S64x128 ![0, 1] bcast_S64x1_S64x128_0_1 (broadcastInDim S64x1 ![0] bcast_S64_S64x1_0 (iotaInDim S64 32 0)))
        (broadcastInDim S64x128 ![0, 1] bcast_S1x128_S64x128_0_1 (broadcastInDim S1x128 ![1] bcast_S128_S1x128_1 (iotaInDim S128 32 0)))))
      (broadcastInDim S64x128 ![] bcast_S_S64x128 hostPi))
    (broadcastInDim S64x128 ![] bcast_S_S64x128 (constant S_ .f32 k))

/-- Their cosines, times a scale. -/
def cos64x128 (k s : BitVec 32) : FVec F S64x128 .f32 :=
  mulf (Host.cos (angle64x128 k)) (broadcastInDim S64x128 ![] bcast_S_S64x128 (constant S_ .f32 s))

/-- Their sines, times a scale. -/
def sin64x128 (k s : BitVec 32) : FVec F S64x128 .f32 :=
  mulf (Host.sin (angle64x128 k)) (broadcastInDim S64x128 ![] bcast_S_S64x128 (constant S_ .f32 s))

/-- The angles `p q π k` over the 64 × 64 pairs. -/
def angle64x64 (k : BitVec 32) : FVec F S64x64 .f32 :=
  mulf (mulf (sitofp .f32 (muli (broadcastInDim S64x64 ![0, 1] bcast_S64x1_S64x64_0_1 (broadcastInDim S64x1 ![0] bcast_S64_S64x1_0 (iotaInDim S64 32 0)))
        (broadcastInDim S64x64 ![0, 1] bcast_S1x64_S64x64_0_1 (broadcastInDim S1x64 ![1] bcast_S64_S1x64_1 (iotaInDim S64 32 0)))))
      (broadcastInDim S64x64 ![] bcast_S_S64x64 hostPi))
    (broadcastInDim S64x64 ![] bcast_S_S64x64 (constant S_ .f32 k))

/-- Their cosines, times a scale. -/
def cos64x64 (k s : BitVec 32) : FVec F S64x64 .f32 :=
  mulf (Host.cos (angle64x64 k)) (broadcastInDim S64x64 ![] bcast_S_S64x64 (constant S_ .f32 s))

/-- Their sines, times a scale. -/
def sin64x64 (k s : BitVec 32) : FVec F S64x64 .f32 :=
  mulf (Host.sin (angle64x64 k)) (broadcastInDim S64x64 ![] bcast_S_S64x64 (constant S_ .f32 s))

/-- The angles `p q π k` over the 128 × 64 pairs. -/
def angle128x64 (k : BitVec 32) : FVec F S128x64 .f32 :=
  mulf (mulf (sitofp .f32 (muli (broadcastInDim S128x64 ![0, 1] bcast_S128x1_S128x64_0_1 (broadcastInDim S128x1 ![0] bcast_S128_S128x1_0 (iotaInDim S128 32 0)))
        (broadcastInDim S128x64 ![0, 1] bcast_S1x64_S128x64_0_1 (broadcastInDim S1x64 ![1] bcast_S64_S1x64_1 (iotaInDim S64 32 0)))))
      (broadcastInDim S128x64 ![] bcast_S_S128x64 hostPi))
    (broadcastInDim S128x64 ![] bcast_S_S128x64 (constant S_ .f32 k))

/-- Their cosines, times a scale. -/
def cos128x64 (k s : BitVec 32) : FVec F S128x64 .f32 :=
  mulf (Host.cos (angle128x64 k)) (broadcastInDim S128x64 ![] bcast_S_S128x64 (constant S_ .f32 s))

/-- Their sines, times a scale. -/
def sin128x64 (k s : BitVec 32) : FVec F S128x64 .f32 :=
  mulf (Host.sin (angle128x64 k)) (broadcastInDim S128x64 ![] bcast_S_S128x64 (constant S_ .f32 s))

set_option maxHeartbeats 4000000 in
/-- The signal, reshaped. -/
theorem V_v0 (c : Dev nD) : V m c main_v0
    = shapeCast S8x64x64x1024 (m ((c : Thread nD τ).loc main_arg0)) shapeCasts_S8x4096x1024_S8x64x64x1024 := by
  simp only [V, V0, hostOps0, List.flatten_cons, List.flatten_nil, List.append_nil, List.cons_append, List.nil_append]
  after_results
  rfl

set_option maxHeartbeats 4000000 in
/-- The filter, reshaped. -/
theorem V_v1 (c : Dev nD) : V m c main_v1
    = shapeCast S64x64x1024 (m ((c : Thread nD τ).loc main_arg1)) shapeCasts_S4096x1024_S64x64x1024 := by
  simp only [V, V0, hostOps0, List.flatten_cons, List.flatten_nil, List.append_nil, List.cons_append, List.nil_append]
  after_results
  rfl

set_option maxHeartbeats 4000000 in
/-- The array the region finds as the cosines of the forward table over rows. -/
theorem V_v25 (c : Dev nD) : V m c main_v25 = cos64x128 0xBC800000#32 0x3F800000#32 := by
  simp only [V, V0, hostOps0, List.flatten_cons, List.flatten_nil, List.append_nil, List.cons_append, List.nil_append]
  after_results
  rfl

set_option maxHeartbeats 4000000 in
/-- The array the region finds as the sines of the forward table over rows. -/
theorem V_v28 (c : Dev nD) : V m c main_v28 = sin64x128 0xBC800000#32 0x3F800000#32 := by
  simp only [V, V0, hostOps0, List.flatten_cons, List.flatten_nil, List.append_nil, List.cons_append, List.nil_append]
  after_results
  rfl

set_option maxHeartbeats 4000000 in
/-- The array the region finds as the cosines of the forward twiddle table. -/
theorem V_v40 (c : Dev nD) : V m c main_v40 = cos64x128 0xB9800000#32 0x3F800000#32 := by
  simp only [V, V0, hostOps0, List.flatten_cons, List.flatten_nil, List.append_nil, List.cons_append, List.nil_append]
  after_results
  rfl

set_option maxHeartbeats 4000000 in
/-- The array the region finds as the sines of the forward twiddle table. -/
theorem V_v43 (c : Dev nD) : V m c main_v43 = sin64x128 0xB9800000#32 0x3F800000#32 := by
  simp only [V, V0, hostOps0, List.flatten_cons, List.flatten_nil, List.append_nil, List.cons_append, List.nil_append]
  after_results
  rfl

set_option maxHeartbeats 4000000 in
/-- The array the region finds as the cosines of the forward table over columns. -/
theorem V_v55 (c : Dev nD) : V m c main_v55 = cos64x64 0xBD000000#32 0x3F800000#32 := by
  simp only [V, V0, hostOps0, List.flatten_cons, List.flatten_nil, List.append_nil, List.cons_append, List.nil_append]
  after_results
  rfl

set_option maxHeartbeats 4000000 in
/-- The array the region finds as the sines of the forward table over columns. -/
theorem V_v58 (c : Dev nD) : V m c main_v58 = sin64x64 0xBD000000#32 0x3F800000#32 := by
  simp only [V, V0, hostOps0, List.flatten_cons, List.flatten_nil, List.append_nil, List.cons_append, List.nil_append]
  after_results
  rfl

set_option maxHeartbeats 4000000 in
/-- The array the region finds as the cosines of the inverse table over columns. -/
theorem V_v70 (c : Dev nD) : V m c main_v70 = cos64x64 0x3D000000#32 0x3F800000#32 := by
  simp only [V, V0, hostOps0, List.flatten_cons, List.flatten_nil, List.append_nil, List.cons_append, List.nil_append]
  after_results
  rfl

set_option maxHeartbeats 4000000 in
/-- The array the region finds as the sines of the inverse table over columns. -/
theorem V_v73 (c : Dev nD) : V m c main_v73 = sin64x64 0x3D000000#32 0x3F800000#32 := by
  simp only [V, V0, hostOps0, List.flatten_cons, List.flatten_nil, List.append_nil, List.cons_append, List.nil_append]
  after_results
  rfl

set_option maxHeartbeats 4000000 in
/-- The array the region finds as the cosines of the inverse twiddle table. -/
theorem V_v85 (c : Dev nD) : V m c main_v85 = cos64x128 0x39800000#32 0x3F800000#32 := by
  simp only [V, V0, hostOps0, List.flatten_cons, List.flatten_nil, List.append_nil, List.cons_append, List.nil_append]
  after_results
  rfl

set_option maxHeartbeats 4000000 in
/-- The array the region finds as the sines of the inverse twiddle table. -/
theorem V_v88 (c : Dev nD) : V m c main_v88 = sin64x128 0x39800000#32 0x3F800000#32 := by
  simp only [V, V0, hostOps0, List.flatten_cons, List.flatten_nil, List.append_nil, List.cons_append, List.nil_append]
  after_results
  rfl

set_option maxHeartbeats 4000000 in
/-- The array the region finds as the cosines of the inverse table over rows, scaled by 1/8192. -/
theorem V_v100 (c : Dev nD) : V m c main_v100 = cos128x64 0x3C800000#32 0x39000000#32 := by
  simp only [V, V0, hostOps0, List.flatten_cons, List.flatten_nil, List.append_nil, List.cons_append, List.nil_append]
  after_results
  rfl

set_option maxHeartbeats 4000000 in
/-- The array the region finds as the sines of the inverse table over rows, scaled by 1/8192. -/
theorem V_v103 (c : Dev nD) : V m c main_v103 = sin128x64 0x3C800000#32 0x39000000#32 := by
  simp only [V, V0, hostOps0, List.flatten_cons, List.flatten_nil, List.append_nil, List.cons_append, List.nil_append]
  after_results
  rfl

end Cert.KernelIdeal.Mix

end
-- ==== Proof.Angles.lean ====
module

public import proofs.«01_k».proof.Proof.Tables
public import proofs.«01_k».proof.Proof.Fourier
public import Idealize.ShloMosaic.Lib.Pointwise
public import Idealize.ShloMosaic.Lib.IdealHost

@[expose] public section

set_option maxRecDepth 16384

noncomputable section

/-! # The tables over the reals

Each pair of tables holds the real and imaginary parts of a character: entry `(p, q)` that of a multiple of `p q`. -/

namespace Cert.KernelIdeal.Mix

open Cert.KernelIdeal Cert.KernelIdeal.Gen Idealize.ShloMosaic Idealize.ShloMosaic.TcCoe Idealize.SL.Sem Causal

/-- The printed word of minus one. -/
theorem bits_neg_one : Ideal.ofBits .f32 0xBF800000#32 = ((-1 : ℝ) : EReal) := by
  simp [Ideal.ofBits, Ideal.ieee, -EReal.coe_mul, -EReal.coe_neg]; norm_num

/-- The printed word of 1/8192, exact. -/
theorem bits_scale : Ideal.ofBits .f32 0x39000000#32 = ((1 / 8192 : ℝ) : EReal) := by
  simp [Ideal.ofBits, Ideal.ieee, -EReal.coe_mul, -EReal.coe_neg]; norm_num

/-- The printed word of -1/64, exact. -/
theorem bits_F1 : Ideal.ofBits .f32 0xBC800000#32 = ((-(1 / 64) : ℝ) : EReal) := by
  simp [Ideal.ofBits, Ideal.ieee, -EReal.coe_mul, -EReal.coe_neg]; norm_num

/-- The printed word of -1/4096, exact. -/
theorem bits_W1 : Ideal.ofBits .f32 0xB9800000#32 = ((-(1 / 4096) : ℝ) : EReal) := by
  simp [Ideal.ofBits, Ideal.ieee, -EReal.coe_mul, -EReal.coe_neg]; norm_num

/-- The printed word of -1/32, exact. -/
theorem bits_F2 : Ideal.ofBits .f32 0xBD000000#32 = ((-(1 / 32) : ℝ) : EReal) := by
  simp [Ideal.ofBits, Ideal.ieee, -EReal.coe_mul, -EReal.coe_neg]; norm_num

/-- The printed word of 1/32, exact. -/
theorem bits_G2 : Ideal.ofBits .f32 0x3D000000#32 = ((1 / 32 : ℝ) : EReal) := by
  simp [Ideal.ofBits, Ideal.ieee, -EReal.coe_mul, -EReal.coe_neg]; norm_num

/-- The printed word of 1/4096, exact. -/
theorem bits_W2 : Ideal.ofBits .f32 0x39800000#32 = ((1 / 4096 : ℝ) : EReal) := by
  simp [Ideal.ofBits, Ideal.ieee, -EReal.coe_mul, -EReal.coe_neg]; norm_num

/-- The printed word of 1/64, exact. -/
theorem bits_G1 : Ideal.ofBits .f32 0x3C800000#32 = ((1 / 64 : ℝ) : EReal) := by
  simp [Ideal.ofBits, Ideal.ieee, -EReal.coe_mul, -EReal.coe_neg]; norm_num

/-- The product of two indices, taken in 32 bits, is their product. -/
theorem toInt_mul_small (p q : ℕ) (hp : p < 128) (hq : q < 128) :
    (BitVec.ofNat 32 p * BitVec.ofNat 32 q).toInt = (p : ℤ) * q := by
  have h : p * q ≤ 127 * 127 := Nat.mul_le_mul (by omega) (by omega)
  have hn : (BitVec.ofNat 32 p * BitVec.ofNat 32 q).toNat = p * q := by
    rw [BitVec.toNat_mul, BitVec.toNat_ofNat, BitVec.toNat_ofNat, Nat.mod_eq_of_lt (a := p) (by omega),
      Nat.mod_eq_of_lt (a := q) (by omega), Nat.mod_eq_of_lt (by omega)]
  rw [BitVec.toInt_eq_toNat_of_lt (by omega), hn]
  push_cast
  rfl

/-- The product of two indices as a float. -/
theorem sitofp_mul (p q : ℕ) (hp : p < 128) (hq : q < 128) :
    FloatOps.sitofp (F := Ideal) .f32 (IntOp.muli (BitVec.ofNat 32 p) (BitVec.ofNat 32 q)) = ((p * q : ℝ) : EReal) := by
  show (((BitVec.ofNat 32 p * BitVec.ofNat 32 q).toInt : ℝ) : EReal) = _
  rw [toInt_mul_small p q hp hq]
  push_cast
  rfl

/-- The host's π is π. -/
theorem hostPi_apply (i : S_.Idx) : hostPi (F := Ideal) i = ((Real.pi : ℝ) : EReal) := by
  show Ideal.atan2 (Ideal.ofBits .f32 0x00000000#32) (Ideal.ofBits .f32 0xBF800000#32) = _
  rw [bits_neg_one, Ideal.ofBits_zero_f32, ← EReal.coe_zero]
  show ((if (0 : ℝ) < -1 then Real.arctan (0 / -1)
      else if (-1 : ℝ) < 0 then (if (0 : ℝ) ≤ 0 then Real.arctan (0 / -1) + Real.pi else Real.arctan (0 / -1) - Real.pi)
      else if (0 : ℝ) < 0 then Real.pi / 2 else if (0 : ℝ) < 0 then -(Real.pi / 2) else 0 : ℝ) : EReal) = _
  norm_num

/-- An entry of the angles of a 64 by 128 table. -/
theorem angle64x128_apply (k : BitVec 32) (κ : ℝ) (hk : Ideal.ofBits .f32 k = (κ : EReal)) (p : Fin 64) (q : Fin 128) :
    angle64x128 (F := Ideal) k (ix2 p q) = ((p * q * Real.pi * κ : ℝ) : EReal) := by
  pointwise [angle64x128]
  rw [sitofp_mul p q (by omega) (by omega), hostPi_apply, hk, ← EReal.coe_mul, ← EReal.coe_mul]

/-- An entry of the scaled cosines of a 64 by 128 table. -/
theorem cos64x128_apply (k s : BitVec 32) (κ σ : ℝ) (hk : Ideal.ofBits .f32 k = (κ : EReal)) (hs : Ideal.ofBits .f32 s = (σ : EReal))
    (p : Fin 64) (q : Fin 128) : cos64x128 (F := Ideal) k s (ix2 p q) = ((Real.cos (p * q * Real.pi * κ) * σ : ℝ) : EReal) := by
  show Ideal.cos (angle64x128 (F := Ideal) k (ix2 p q)) * Ideal.ofBits .f32 s = _
  rw [angle64x128_apply k κ hk p q, hs, Ideal.cos_coe, ← EReal.coe_mul]

/-- An entry of the scaled sines of a 64 by 128 table. -/
theorem sin64x128_apply (k s : BitVec 32) (κ σ : ℝ) (hk : Ideal.ofBits .f32 k = (κ : EReal)) (hs : Ideal.ofBits .f32 s = (σ : EReal))
    (p : Fin 64) (q : Fin 128) : sin64x128 (F := Ideal) k s (ix2 p q) = ((Real.sin (p * q * Real.pi * κ) * σ : ℝ) : EReal) := by
  show Ideal.sin (angle64x128 (F := Ideal) k (ix2 p q)) * Ideal.ofBits .f32 s = _
  rw [angle64x128_apply k κ hk p q, hs, Ideal.sin_coe, ← EReal.coe_mul]

/-- An entry of the angles of a 64 by 64 table. -/
theorem angle64x64_apply (k : BitVec 32) (κ : ℝ) (hk : Ideal.ofBits .f32 k = (κ : EReal)) (p : Fin 64) (q : Fin 64) :
    angle64x64 (F := Ideal) k (ix2 p q) = ((p * q * Real.pi * κ : ℝ) : EReal) := by
  pointwise [angle64x64]
  rw [sitofp_mul p q (by omega) (by omega), hostPi_apply, hk, ← EReal.coe_mul, ← EReal.coe_mul]

/-- An entry of the scaled cosines of a 64 by 64 table. -/
theorem cos64x64_apply (k s : BitVec 32) (κ σ : ℝ) (hk : Ideal.ofBits .f32 k = (κ : EReal)) (hs : Ideal.ofBits .f32 s = (σ : EReal))
    (p : Fin 64) (q : Fin 64) : cos64x64 (F := Ideal) k s (ix2 p q) = ((Real.cos (p * q * Real.pi * κ) * σ : ℝ) : EReal) := by
  show Ideal.cos (angle64x64 (F := Ideal) k (ix2 p q)) * Ideal.ofBits .f32 s = _
  rw [angle64x64_apply k κ hk p q, hs, Ideal.cos_coe, ← EReal.coe_mul]

/-- An entry of the scaled sines of a 64 by 64 table. -/
theorem sin64x64_apply (k s : BitVec 32) (κ σ : ℝ) (hk : Ideal.ofBits .f32 k = (κ : EReal)) (hs : Ideal.ofBits .f32 s = (σ : EReal))
    (p : Fin 64) (q : Fin 64) : sin64x64 (F := Ideal) k s (ix2 p q) = ((Real.sin (p * q * Real.pi * κ) * σ : ℝ) : EReal) := by
  show Ideal.sin (angle64x64 (F := Ideal) k (ix2 p q)) * Ideal.ofBits .f32 s = _
  rw [angle64x64_apply k κ hk p q, hs, Ideal.sin_coe, ← EReal.coe_mul]

/-- An entry of the angles of a 128 by 64 table. -/
theorem angle128x64_apply (k : BitVec 32) (κ : ℝ) (hk : Ideal.ofBits .f32 k = (κ : EReal)) (p : Fin 128) (q : Fin 64) :
    angle128x64 (F := Ideal) k (ix2 p q) = ((p * q * Real.pi * κ : ℝ) : EReal) := by
  pointwise [angle128x64]
  rw [sitofp_mul p q (by omega) (by omega), hostPi_apply, hk, ← EReal.coe_mul, ← EReal.coe_mul]

/-- An entry of the scaled cosines of a 128 by 64 table. -/
theorem cos128x64_apply (k s : BitVec 32) (κ σ : ℝ) (hk : Ideal.ofBits .f32 k = (κ : EReal)) (hs : Ideal.ofBits .f32 s = (σ : EReal))
    (p : Fin 128) (q : Fin 64) : cos128x64 (F := Ideal) k s (ix2 p q) = ((Real.cos (p * q * Real.pi * κ) * σ : ℝ) : EReal) := by
  show Ideal.cos (angle128x64 (F := Ideal) k (ix2 p q)) * Ideal.ofBits .f32 s = _
  rw [angle128x64_apply k κ hk p q, hs, Ideal.cos_coe, ← EReal.coe_mul]

/-- An entry of the scaled sines of a 128 by 64 table. -/
theorem sin128x64_apply (k s : BitVec 32) (κ σ : ℝ) (hk : Ideal.ofBits .f32 k = (κ : EReal)) (hs : Ideal.ofBits .f32 s = (σ : EReal))
    (p : Fin 128) (q : Fin 64) : sin128x64 (F := Ideal) k s (ix2 p q) = ((Real.sin (p * q * Real.pi * κ) * σ : ℝ) : EReal) := by
  show Ideal.sin (angle128x64 (F := Ideal) k (ix2 p q)) * Ideal.ofBits .f32 s = _
  rw [angle128x64_apply k κ hk p q, hs, Ideal.sin_coe, ← EReal.coe_mul]

/-- The printed word of one. -/
theorem bits_one : Ideal.ofBits .f32 0x3F800000#32 = ((1 : ℝ) : EReal) := by
  rw [Ideal.ofBits_one_f32, EReal.coe_one]

variable (m : (ℓ : Loc nD τ sig) → Buf (Elt Ideal) ℓ)

/-- The forward table over rows: its real part is a cosine of the exact angle. -/
theorem F1_re (c : Dev nD) (p : Fin 64) (q : Fin 128) :
    (V m c main_v25 : S64x128.Idx → EReal) (ix2 p q) = ((chi (-(64 * p * q))).re : EReal) := by
  rw [V_v25, cos64x128_apply _ _ _ _ bits_F1 bits_one]
  rw [chi_re, mul_one]
  congr 2
  push_cast
  ring

/-- The forward table over rows: its imaginary part is a sine of the exact angle. -/
theorem F1_im (c : Dev nD) (p : Fin 64) (q : Fin 128) :
    (V m c main_v28 : S64x128.Idx → EReal) (ix2 p q) = ((chi (-(64 * p * q))).im : EReal) := by
  rw [V_v28, sin64x128_apply _ _ _ _ bits_F1 bits_one]
  rw [chi_im, mul_one]
  congr 2
  push_cast
  ring

/-- The forward twiddle table: its real part is a cosine of the exact angle. -/
theorem W1_re (c : Dev nD) (p : Fin 64) (q : Fin 128) :
    (V m c main_v40 : S64x128.Idx → EReal) (ix2 p q) = ((chi (-(p * q))).re : EReal) := by
  rw [V_v40, cos64x128_apply _ _ _ _ bits_W1 bits_one]
  rw [chi_re, mul_one]
  congr 2
  push_cast
  ring

/-- The forward twiddle table: its imaginary part is a sine of the exact angle. -/
theorem W1_im (c : Dev nD) (p : Fin 64) (q : Fin 128) :
    (V m c main_v43 : S64x128.Idx → EReal) (ix2 p q) = ((chi (-(p * q))).im : EReal) := by
  rw [V_v43, sin64x128_apply _ _ _ _ bits_W1 bits_one]
  rw [chi_im, mul_one]
  congr 2
  push_cast
  ring

/-- The forward table over columns: its real part is a cosine of the exact angle. -/
theorem F2_re (c : Dev nD) (p : Fin 64) (q : Fin 64) :
    (V m c main_v55 : S64x64.Idx → EReal) (ix2 p q) = ((chi (-(128 * p * q))).re : EReal) := by
  rw [V_v55, cos64x64_apply _ _ _ _ bits_F2 bits_one]
  rw [chi_re, mul_one]
  congr 2
  push_cast
  ring

/-- The forward table over columns: its imaginary part is a sine of the exact angle. -/
theorem F2_im (c : Dev nD) (p : Fin 64) (q : Fin 64) :
    (V m c main_v58 : S64x64.Idx → EReal) (ix2 p q) = ((chi (-(128 * p * q))).im : EReal) := by
  rw [V_v58, sin64x64_apply _ _ _ _ bits_F2 bits_one]
  rw [chi_im, mul_one]
  congr 2
  push_cast
  ring

/-- The inverse table over columns: its real part is a cosine of the exact angle. -/
theorem G2_re (c : Dev nD) (p : Fin 64) (q : Fin 64) :
    (V m c main_v70 : S64x64.Idx → EReal) (ix2 p q) = ((chi (128 * p * q)).re : EReal) := by
  rw [V_v70, cos64x64_apply _ _ _ _ bits_G2 bits_one]
  rw [chi_re, mul_one]
  congr 2
  push_cast
  ring

/-- The inverse table over columns: its imaginary part is a sine of the exact angle. -/
theorem G2_im (c : Dev nD) (p : Fin 64) (q : Fin 64) :
    (V m c main_v73 : S64x64.Idx → EReal) (ix2 p q) = ((chi (128 * p * q)).im : EReal) := by
  rw [V_v73, sin64x64_apply _ _ _ _ bits_G2 bits_one]
  rw [chi_im, mul_one]
  congr 2
  push_cast
  ring

/-- The inverse twiddle table: its real part is a cosine of the exact angle. -/
theorem W2_re (c : Dev nD) (p : Fin 64) (q : Fin 128) :
    (V m c main_v85 : S64x128.Idx → EReal) (ix2 p q) = ((chi (p * q)).re : EReal) := by
  rw [V_v85, cos64x128_apply _ _ _ _ bits_W2 bits_one]
  rw [chi_re, mul_one]
  congr 2
  push_cast
  ring

/-- The inverse twiddle table: its imaginary part is a sine of the exact angle. -/
theorem W2_im (c : Dev nD) (p : Fin 64) (q : Fin 128) :
    (V m c main_v88 : S64x128.Idx → EReal) (ix2 p q) = ((chi (p * q)).im : EReal) := by
  rw [V_v88, sin64x128_apply _ _ _ _ bits_W2 bits_one]
  rw [chi_im, mul_one]
  congr 2
  push_cast
  ring

/-- The inverse table over rows, scaled by 1/8192: its real part is a cosine of the exact angle. -/
theorem G1_re (c : Dev nD) (p : Fin 128) (q : Fin 64) :
    (V m c main_v100 : S128x64.Idx → EReal) (ix2 p q) = ((chi (64 * p * q) / 8192).re : EReal) := by
  rw [V_v100, cos128x64_apply _ _ _ _ bits_G1 bits_scale]
  rw [show chi (64 * p * q) / 8192 = chi (64 * p * q) / ((8192 : ℝ) : ℂ) by push_cast; rfl, Complex.div_ofReal_re, chi_re, div_eq_mul_one_div]
  congr 3
  push_cast
  ring
  norm_num

/-- The inverse table over rows, scaled by 1/8192: its imaginary part is a sine of the exact angle. -/
theorem G1_im (c : Dev nD) (p : Fin 128) (q : Fin 64) :
    (V m c main_v103 : S128x64.Idx → EReal) (ix2 p q) = ((chi (64 * p * q) / 8192).im : EReal) := by
  rw [V_v103, sin128x64_apply _ _ _ _ bits_G1 bits_scale]
  rw [show chi (64 * p * q) / 8192 = chi (64 * p * q) / ((8192 : ℝ) : ℂ) by push_cast; rfl, Complex.div_ofReal_im, chi_im, div_eq_mul_one_div]
  congr 3
  push_cast
  ring
  norm_num

end Cert.KernelIdeal.Mix

end
-- ==== Proof.Stages.lean ====
module

public import proofs.«01_k».proof.Proof.Gen.KernelIdeal.Skeleton
public import proofs.«01_k».proof.Proof.Sequences
public import Idealize.ShloMosaic.Lib.Pointwise

@[expose] public section

set_option maxRecDepth 16384

noncomputable section

/-! # The stages of the transform, on real and imaginary parts

A pair of vectors holds a family of complex numbers when the one holds their real parts and the other their imaginary
parts. Each stage of the kernel takes such pairs to such pairs. -/

namespace Cert.KernelIdeal.Mix

open Cert.KernelIdeal Cert.KernelIdeal.Gen Idealize.ShloMosaic Idealize.ShloMosaic.TcCoe Idealize.SL.Sem Causal

/-- The pair `re`, `im` holds the family `z` of complex numbers. -/
def Holds (re im : FVec Ideal S64x128x128 .f32) (z : Fin 64 → Fin 128 → Fin 128 → ℂ) : Prop :=
  ∀ i j k, re (ix3 i j k) = ((z i j k).re : EReal) ∧ im (ix3 i j k) = ((z i j k).im : EReal)

/-- The pair `re`, `im` holds the table `z` of complex numbers. -/
def Holds2 {a b : ℕ} (re im : FVec Ideal (⟨2, ![a, b]⟩ : Shape) .f32) (z : Fin a → Fin b → ℂ) : Prop :=
  ∀ i j, re (ix2 i j) = ((z i j).re : EReal) ∧ im (ix2 i j) = ((z i j).im : EReal)

/-- The first product: a real block against a complex table. -/
def prod1 (y : FVec Ideal S64x64x128 .f32) (w : FVec Ideal S64x128 .f32) : FVec Ideal S64x128x128 .f32 :=
  matmul dot_S64x64x128_S64x128_S64x128x128_0_0_12_1_n_n none y w (constant S64x128x128 .f32 0x00000000#32)

/-- The entry of the first contraction: a sum over the rows of the block. -/
theorem prod1_apply (y : FVec Ideal S64x64x128 .f32) (w : FVec Ideal S64x128 .f32) (i : Fin 64) (d k : Fin 128) :
    prod1 y w (ix3 i d k) = ∑ n : Fin 64, y (ix3 n i d) * w (ix2 n k) := by
  pointwise [prod1]

/-- The product of a table with a block, over the block's first axis. -/
def prod2 (g : FVec Ideal S64x64 .f32) (b : FVec Ideal S64x128x128 .f32) : FVec Ideal S64x128x128 .f32 :=
  matmul dot_S64x64_S64x128x128_S64x128x128_1_0_0_12_n_n none g b (constant S64x128x128 .f32 0x00000000#32)

/-- The entry of the second contraction: a sum over the columns of the block. -/
theorem prod2_apply (g : FVec Ideal S64x64 .f32) (b : FVec Ideal S64x128x128 .f32) (i : Fin 64) (d k : Fin 128) :
    prod2 g b (ix3 i d k) = ∑ n : Fin 64, g (ix2 i n) * b (ix3 n d k) := by
  pointwise [prod2]

/-- The product of a block with a table, over the block's last axis. -/
def prod3 (b : FVec Ideal S64x128x128 .f32) (g : FVec Ideal S128x64 .f32) : FVec Ideal S64x128x64 .f32 :=
  matmul dot_S64x128x128_S128x64_S64x128x64_2_0_01_1_n_n none b g (constant S64x128x64 .f32 0x00000000#32)

/-- The entry of the last contraction: a sum over the 128 frequencies. -/
theorem prod3_apply (b : FVec Ideal S64x128x128 .f32) (g : FVec Ideal S128x64 .f32) (i : Fin 64) (d : Fin 128) (k : Fin 64) :
    prod3 b g (ix3 i d k) = ∑ n : Fin 128, b (ix3 i d n) * g (ix2 n k) := by
  pointwise [prod3]

/-- A table of twiddle factors, repeated over the channels. -/
def spread (w : FVec Ideal S64x128 .f32) : FVec Ideal S64x128x128 .f32 :=
  broadcastTo S64x128x128 (shapeCast S64x1x128 (shapeCast S64x128 w shapeCasts_S64x128_S64x128) shapeCasts_S64x128_S64x1x128)
    broadcasts_S64x1x128_S64x128x128

/-- A table spread over the channels has the same entry at each. -/
theorem spread_apply (w : FVec Ideal S64x128 .f32) (i : Fin 64) (d k : Fin 128) : spread w (ix3 i d k) = w (ix2 i k) := by
  pointwise [spread]

/-- A real block against a complex table: the parts of the sums. -/
theorem holds_prod1 (y : FVec Ideal S64x64x128 .f32) (u : Fin 64 → Fin 64 → Fin 128 → ℝ)
    (hy : ∀ a i d, y (ix3 a i d) = (u a i d : EReal)) (wr wi : FVec Ideal S64x128 .f32) (w : Fin 64 → Fin 128 → ℂ)
    (hw : Holds2 wr wi w) : Holds (prod1 y wr) (prod1 y wi) (fun i d k => ∑ n : Fin 64, (u n i d : ℂ) * w n k) := by
  intro i d k
  rw [prod1_apply, prod1_apply, Complex.re_sum, Complex.im_sum, coe_sum, coe_sum]
  refine ⟨Finset.sum_congr rfl fun n _ => ?_, Finset.sum_congr rfl fun n _ => ?_⟩
  · rw [hy, (hw n k).1, ← EReal.coe_mul, Complex.re_ofReal_mul]
  · rw [hy, (hw n k).2, ← EReal.coe_mul, Complex.im_ofReal_mul]

/-- Twiddled: each number times its factor. -/
theorem holds_twiddle (ar ai : FVec Ideal S64x128x128 .f32) (a : Fin 64 → Fin 128 → Fin 128 → ℂ) (ha : Holds ar ai a)
    (wr wi : FVec Ideal S64x128 .f32) (w : Fin 64 → Fin 128 → ℂ) (hw : Holds2 wr wi w) :
    Holds (subf (mulf ar (spread wr)) (mulf ai (spread wi))) (addf (mulf ar (spread wi)) (mulf ai (spread wr)))
      (fun i d k => a i d k * w i k) := by
  intro i d k
  have h1 : subf (mulf ar (spread wr)) (mulf ai (spread wi)) (ix3 i d k)
      = ar (ix3 i d k) * spread wr (ix3 i d k) - ai (ix3 i d k) * spread wi (ix3 i d k) := rfl
  have h2 : addf (mulf ar (spread wi)) (mulf ai (spread wr)) (ix3 i d k)
      = ar (ix3 i d k) * spread wi (ix3 i d k) + ai (ix3 i d k) * spread wr (ix3 i d k) := rfl
  rw [h1, h2, spread_apply, spread_apply, (ha i d k).1, (ha i d k).2, (hw i k).1, (hw i k).2, Complex.mul_re, Complex.mul_im]
  simp only [← EReal.coe_mul, ← EReal.coe_add, ← EReal.coe_sub]
  exact ⟨trivial, trivial⟩

/-- A complex table against a complex block. -/
theorem holds_prod2 (gr gi : FVec Ideal S64x64 .f32) (g : Fin 64 → Fin 64 → ℂ) (hg : Holds2 gr gi g)
    (br bi : FVec Ideal S64x128x128 .f32) (b : Fin 64 → Fin 128 → Fin 128 → ℂ) (hb : Holds br bi b) :
    Holds (subf (prod2 gr br) (prod2 gi bi)) (addf (prod2 gr bi) (prod2 gi br)) (fun i d k => ∑ n : Fin 64, g i n * b n d k) := by
  intro i d k
  have h1 : subf (prod2 gr br) (prod2 gi bi) (ix3 i d k) = prod2 gr br (ix3 i d k) - prod2 gi bi (ix3 i d k) := rfl
  have h2 : addf (prod2 gr bi) (prod2 gi br) (ix3 i d k) = prod2 gr bi (ix3 i d k) + prod2 gi br (ix3 i d k) := rfl
  rw [h1, h2, prod2_apply, prod2_apply, prod2_apply, prod2_apply, Complex.re_sum, Complex.im_sum]
  simp only [fun n => (hg i n).1, fun n => (hg i n).2, fun n => (hb n d k).1, fun n => (hb n d k).2, ← EReal.coe_mul, ← coe_sum,
    ← EReal.coe_add, ← EReal.coe_sub, Complex.mul_re, Complex.mul_im, Finset.sum_sub_distrib, Finset.sum_add_distrib]
  exact ⟨trivial, trivial⟩

/-- Two complex blocks, entry by entry. -/
theorem holds_mul (ar ai br bi : FVec Ideal S64x128x128 .f32) (a b : Fin 64 → Fin 128 → Fin 128 → ℂ) (ha : Holds ar ai a)
    (hb : Holds br bi b) : Holds (subf (mulf ar br) (mulf ai bi)) (addf (mulf ar bi) (mulf ai br)) (fun i d k => a i d k * b i d k) := by
  intro i d k
  have h1 : subf (mulf ar br) (mulf ai bi) (ix3 i d k)
      = ar (ix3 i d k) * br (ix3 i d k) - ai (ix3 i d k) * bi (ix3 i d k) := rfl
  have h2 : addf (mulf ar bi) (mulf ai br) (ix3 i d k)
      = ar (ix3 i d k) * bi (ix3 i d k) + ai (ix3 i d k) * br (ix3 i d k) := rfl
  rw [h1, h2, (ha i d k).1, (ha i d k).2, (hb i d k).1, (hb i d k).2, Complex.mul_re, Complex.mul_im]
  simp only [← EReal.coe_mul, ← EReal.coe_add, ← EReal.coe_sub]
  exact ⟨trivial, trivial⟩

/-- The real part of a complex block against a complex table. -/
theorem real_prod3 (br bi : FVec Ideal S64x128x128 .f32) (b : Fin 64 → Fin 128 → Fin 128 → ℂ) (hb : Holds br bi b)
    (gr gi : FVec Ideal S128x64 .f32) (g : Fin 128 → Fin 64 → ℂ) (hg : Holds2 gr gi g) (i : Fin 64) (d : Fin 128) (k : Fin 64) :
    subf (prod3 br gr) (prod3 bi gi) (ix3 i d k) = ((∑ n : Fin 128, b i d n * g n k).re : EReal) := by
  have h1 : subf (prod3 br gr) (prod3 bi gi) (ix3 i d k) = prod3 br gr (ix3 i d k) - prod3 bi gi (ix3 i d k) := rfl
  rw [h1, prod3_apply, prod3_apply, Complex.re_sum]
  simp only [fun n => (hg n k).1, fun n => (hg n k).2, fun n => (hb i d n).1, fun n => (hb i d n).2, ← EReal.coe_mul, ← coe_sum,
    ← EReal.coe_sub, Complex.mul_re, Finset.sum_sub_distrib]

end Cert.KernelIdeal.Mix

end
-- ==== Proof.Transform.lean ====
module

public import proofs.«01_k».proof.Proof.Points
public import proofs.«01_k».proof.Proof.Stages
public import Idealize.ShloMosaic.Lib.Pipeline.Value

@[expose] public section

set_option maxRecDepth 16384

noncomputable section

/-! # What one block computes

Over tables that hold the characters, the filter's two scratch arrays hold the transform of the filter's block, and the
block of results the causal sums. -/

namespace Cert.KernelIdeal.Mix

open Cert.KernelIdeal Cert.KernelIdeal.Gen Idealize.ShloMosaic Idealize.ShloMosaic.TcCoe Idealize.SL.Sem Causal

/-- The transform of a block before its second product: the first product, twiddled. Real parts … -/
def midRe (w4 w5 : FVec Ideal S64x128 .f32) (y : FVec Ideal S64x64x128 .f32) (w2 w3 : FVec Ideal S64x128 .f32) :
    FVec Ideal S64x128x128 .f32 := subf (mulf (prod1 y w2) (spread w4)) (mulf (prod1 y w3) (spread w5))

/-- … and imaginary parts. -/
def midIm (w4 w5 : FVec Ideal S64x128 .f32) (y : FVec Ideal S64x64x128 .f32) (w2 w3 : FVec Ideal S64x128 .f32) :
    FVec Ideal S64x128x128 .f32 := addf (mulf (prod1 y w2) (spread w5)) (mulf (prod1 y w3) (spread w4))

/-- The transform of a block, real parts … -/
def transRe (w4 w5 : FVec Ideal S64x128 .f32) (y : FVec Ideal S64x64x128 .f32) (w2 w3 : FVec Ideal S64x128 .f32)
    (w6 w7 : FVec Ideal S64x64 .f32) : FVec Ideal S64x128x128 .f32 :=
  subf (prod2 w6 (midRe w4 w5 y w2 w3)) (prod2 w7 (midIm w4 w5 y w2 w3))

/-- … and imaginary parts. -/
def transIm (w4 w5 : FVec Ideal S64x128 .f32) (y : FVec Ideal S64x64x128 .f32) (w2 w3 : FVec Ideal S64x128 .f32)
    (w6 w7 : FVec Ideal S64x64 .f32) : FVec Ideal S64x128x128 .f32 :=
  addf (prod2 w6 (midIm w4 w5 y w2 w3)) (prod2 w7 (midRe w4 w5 y w2 w3))

/-- The signal's block without its unit axis. -/
def row (x : FVec Ideal S1x64x64x128 .f32) : FVec Ideal S64x64x128 .f32 :=
  shapeCast S64x64x128 x shapeCasts_S1x64x64x128_S64x64x128

/-- The signal block with its leading one dropped. -/
theorem row_apply (x : FVec Ideal S1x64x64x128 .f32) (a b : Fin 64) (d : Fin 128) : row x (ix3 a b d) = x (ix4 0 a b d) := by
  pointwise [row]

/-- The real part of the filter's transform, as the two stages. -/
theorem pay11_eq (w4 w5 : FVec Ideal S64x128 .f32) (y : FVec Ideal S64x64x128 .f32) (w2 w3 : FVec Ideal S64x128 .f32)
    (w6 w7 : FVec Ideal S64x64 .f32) : k0_pay11 w4 w5 y w2 w3 w6 w7 = transRe w4 w5 y w2 w3 w6 w7 := by
  simp only [k0_pay11, k0_pay10, k0_pay9, k0_pay8, k0_pay7, k0_pay6, k0_pay5, k0_pay4, k0_pay3, k0_pay2, shapeCast_self,
    transRe, midRe, midIm, prod1, prod2, spread]

/-- The imaginary part of the filter's transform, as the two stages. -/
theorem pay12_eq (w4 w5 : FVec Ideal S64x128 .f32) (y : FVec Ideal S64x64x128 .f32) (w2 w3 : FVec Ideal S64x128 .f32)
    (w6 w7 : FVec Ideal S64x64 .f32) : k0_pay12 w4 w5 y w2 w3 w6 w7 = transIm w4 w5 y w2 w3 w6 w7 := by
  simp only [k0_pay12, k0_pay10, k0_pay9, k0_pay8, k0_pay7, k0_pay6, k0_pay5, k0_pay4, k0_pay3, k0_pay2, shapeCast_self,
    transIm, midRe, midIm, prod1, prod2, spread]

/-- The product of the signal's transform with the filter's, transformed back and twiddled: real parts … -/
def backRe (yr yi : FVec Ideal S64x128x128 .f32) (w8 w9 : FVec Ideal S64x64 .f32) (w10 w11 : FVec Ideal S64x128 .f32) :
    FVec Ideal S64x128x128 .f32 :=
  subf (mulf (subf (prod2 w8 yr) (prod2 w9 yi)) (spread w10)) (mulf (addf (prod2 w8 yi) (prod2 w9 yr)) (spread w11))

/-- … and imaginary parts. -/
def backIm (yr yi : FVec Ideal S64x128x128 .f32) (w8 w9 : FVec Ideal S64x64 .f32) (w10 w11 : FVec Ideal S64x128 .f32) :
    FVec Ideal S64x128x128 .f32 :=
  addf (mulf (subf (prod2 w8 yr) (prod2 w9 yi)) (spread w11)) (mulf (addf (prod2 w8 yi) (prod2 w9 yr)) (spread w10))

/-- The block of results, from the transforms of the signal (`pr`, `pi`) and of the filter (`qr`, `qi`). -/
def result (pr pi qr qi : FVec Ideal S64x128x128 .f32) (w8 w9 : FVec Ideal S64x64 .f32) (w10 w11 : FVec Ideal S64x128 .f32)
    (w12 w13 : FVec Ideal S128x64 .f32) : FVec Ideal S64x128x64 .f32 :=
  subf (prod3 (backRe (subf (mulf pr qr) (mulf pi qi)) (addf (mulf pr qi) (mulf pi qr)) w8 w9 w10 w11) w12)
    (prod3 (backIm (subf (mulf pr qr) (mulf pi qi)) (addf (mulf pr qi) (mulf pi qr)) w8 w9 w10 w11) w13)

/-- The block of results, as the stages in turn. -/
theorem mixOf_eq (x0 : FVec Ideal S1x64x64x128 .f32) (w2 w3 w4 w5 : FVec Ideal S64x128 .f32) (w6 w7 w8 w9 : FVec Ideal S64x64 .f32)
    (w10 w11 : FVec Ideal S64x128 .f32) (w12 w13 : FVec Ideal S128x64 .f32) (s0 s1 : FVec Ideal S64x128x128 .f32) :
    mixOf (F := Ideal) x0 w2 w3 w4 w5 w6 w7 w8 w9 w10 w11 w12 w13 s0 s1
      = shapeCast S1x64x128x64 (result (transRe w4 w5 (row x0) w2 w3 w6 w7) (transIm w4 w5 (row x0) w2 w3 w6 w7) s0 s1 w8 w9 w10 w11 w12 w13)
          shapeCasts_S64x128x64_S1x64x128x64 := by
  simp only [mixOf, k0_pay1, k0_pay30, k0_pay31, k0_pay32, k0_pay29, k0_pay28, k0_pay27, k0_pay26, k0_pay25, k0_pay24, k0_pay23,
    k0_pay22, k0_pay21, k0_pay20, k0_pay19, k0_pay18, k0_pay17, k0_pay16, k0_pay15, k0_pay14, k0_pay13, k0_pay3, k0_pay2, shapeCast_self,
    result, backRe, backIm, transRe, transIm, midRe, midIm, prod1, prod2, prod3, spread, row]

/-- The tables hold the characters. -/
structure Tables (w2 w3 w4 w5 : FVec Ideal S64x128 .f32) (w6 w7 w8 w9 : FVec Ideal S64x64 .f32) (w10 w11 : FVec Ideal S64x128 .f32)
    (w12 w13 : FVec Ideal S128x64 .f32) : Prop where
  f1 : Holds2 w2 w3 (fun p q => chi (-(64 * p * q)))
  t1 : Holds2 w4 w5 (fun p q => chi (-(p * q)))
  f2 : Holds2 w6 w7 (fun p q => chi (-(128 * p * q)))
  g2 : Holds2 w8 w9 (fun p q => chi (128 * p * q))
  t2 : Holds2 w10 w11 (fun p q => chi (p * q))
  g1 : Holds2 w12 w13 (fun p q => chi (64 * p * q) / 8192)

/-- The transform of a block of sequences, one per channel: channel `d`'s has `v d (64 a + i)` at row `a`, column `i`. -/
theorem holds_trans {w2 w3 w4 w5 : FVec Ideal S64x128 .f32} {w6 w7 w8 w9 : FVec Ideal S64x64 .f32} {w10 w11 : FVec Ideal S64x128 .f32}
    {w12 w13 : FVec Ideal S128x64 .f32} (h : Tables w2 w3 w4 w5 w6 w7 w8 w9 w10 w11 w12 w13) (y : FVec Ideal S64x64x128 .f32)
    (v : Fin 128 → ℕ → ℝ) (hy : ∀ a i d, y (ix3 a i d) = (v d (64 * a + i) : EReal)) :
    Holds (transRe w4 w5 y w2 w3 w6 w7) (transIm w4 w5 y w2 w3 w6 w7) (fun k2 d k1 => fwd (fun n => (v d n : ℂ)) k2 k1) :=
  holds_prod2 w6 w7 _ h.f2 _ _ _
    (holds_twiddle _ _ _ (holds_prod1 y (fun a i d => v d (64 * a + i)) hy w2 w3 _ h.f1) w4 w5 _ h.t1)

/-- The block of results holds the causal sums. -/
theorem result_apply {w2 w3 w4 w5 : FVec Ideal S64x128 .f32} {w6 w7 w8 w9 : FVec Ideal S64x64 .f32} {w10 w11 : FVec Ideal S64x128 .f32}
    {w12 w13 : FVec Ideal S128x64 .f32} (h : Tables w2 w3 w4 w5 w6 w7 w8 w9 w10 w11 w12 w13)
    (pr pi qr qi : FVec Ideal S64x128x128 .f32) (u v : Fin 128 → ℕ → ℝ)
    (hp : Holds pr pi (fun k2 d k1 => fwd (fun n => (u d n : ℂ)) k2 k1))
    (hq : Holds qr qi (fun k2 d k1 => fwd (fun n => (v d n : ℂ)) k2 k1)) (i : Fin 64) (d : Fin 128) (k : Fin 64) :
    result pr pi qr qi w8 w9 w10 w11 w12 w13 (ix3 i d k) = (causalR (u d) (v d) (64 * k + i) : EReal) := by
  have hb := holds_twiddle _ _ _ (holds_prod2 w8 w9 _ h.g2 _ _ _ (holds_mul pr pi qr qi _ _ hp hq)) w10 w11 _ h.t2
  have hr := real_prod3 _ _ _ hb w12 w13 _ h.g1 i d k
  have hm : 64 * k.val + i.val < 4096 := by omega
  have hc := (inv_fwd (fun n => (u d n : ℂ)) (fun n => (v d n : ℂ)) i k hm).trans (causal_ofReal (u d) (v d) _)
  refine hr.trans (congrArg (fun r : ℝ => (r : EReal)) ?_)
  refine Eq.trans ?_ ((congrArg Complex.re hc).trans (Complex.ofReal_re _))
  rfl

end Cert.KernelIdeal.Mix

end
-- ==== Proof.Sums.lean ====
module

public import proofs.«01_k».proof.Proof.Array
public import proofs.«01_k».proof.Proof.Angles
public import proofs.«01_k».proof.Proof.Transform
public import proofs.«01_k».proof.Proof.Sequences

@[expose] public section

set_option maxRecDepth 16384

noncomputable section

/-! # The kernel's results over the reals

For finite arguments, the entry of the result at batch `b`, position `n` and channel `d` is the causal sum there. -/

namespace Cert.KernelIdeal.Mix

open Cert.KernelIdeal Cert.KernelIdeal.Gen Idealize.ShloMosaic Idealize.ShloMosaic.TcCoe Idealize.SL.Sem Causal

variable (m : (ℓ : Loc nD τ sig) → Buf (Elt Ideal) ℓ)

/-- The signal, as the kernel is given it. -/
abbrev argX (c : Dev nD) : S8x4096x1024.Idx → EReal := m ((c : Thread nD τ).loc main_arg0)

/-- The filter, as the kernel is given it. -/
abbrev argT (c : Dev nD) : S4096x1024.Idx → EReal := m ((c : Thread nD τ).loc main_arg1)

/-- The signal as rows of 64: position `64 a + i` in row `a`, column `i`. -/
theorem reshape_sig (A : S8x4096x1024.Idx → EReal) (b : Fin 8) (a i : Fin 64) (d : Fin 1024) :
    (shapeCast S8x64x64x1024 A shapeCasts_S8x4096x1024_S8x64x64x1024 : S8x64x64x1024.Idx → EReal) (ix4 b a i d)
      = A (ix3 b (⟨64 * a + i, by omega⟩ : Fin 4096) d) := by
  pointwise
  exact congrArg (fun n : Fin 4096 => A (ix3 b n d)) (Fin.ext (by show a.val * 64 + i.val = 64 * a.val + i.val; omega))

/-- The filter as rows of 64: position `64 a + i` in row `a`, column `i`. -/
theorem reshape_flt (A : S4096x1024.Idx → EReal) (a i : Fin 64) (d : Fin 1024) :
    (shapeCast S64x64x1024 A shapeCasts_S4096x1024_S64x64x1024 : S64x64x1024.Idx → EReal) (ix3 a i d)
      = A (ix2 (⟨64 * a + i, by omega⟩ : Fin 4096) d) := by
  pointwise
  exact congrArg (fun n : Fin 4096 => A (ix2 n d)) (Fin.ext (by show a.val * 64 + i.val = 64 * a.val + i.val; omega))

/-- The block of results with its leading one dropped. -/
theorem reshape_out (A : S64x128x64.Idx → EReal) (i : Fin 64) (d : Fin 128) (k : Fin 64) :
    (shapeCast S1x64x128x64 A shapeCasts_S64x128x64_S1x64x128x64 : S1x64x128x64.Idx → EReal) (ix4 0 i d k) = A (ix3 i d k) := by
  pointwise

/-- Row `a`, column `i` of the reshaped signal is position `64 a + i`. -/
theorem V_v0_apply (c : Dev nD) (b : Fin 8) (a i : Fin 64) (d : Fin 1024) :
    (V m c main_v0 : S8x64x64x1024.Idx → EReal) (ix4 b a i d)
      = argX m c (ix3 b (⟨64 * a + i, by omega⟩ : Fin 4096) d) := by
  rw [V_v0]
  exact reshape_sig (argX m c) b a i d

/-- Row `a`, column `i` of the reshaped filter is position `64 a + i`. -/
theorem V_v1_apply (c : Dev nD) (a i : Fin 64) (d : Fin 1024) :
    (V m c main_v1 : S64x64x1024.Idx → EReal) (ix3 a i d) = argT m c (ix2 (⟨64 * a + i, by omega⟩ : Fin 4096) d) := by
  rw [V_v1]
  exact reshape_flt (argT m c) a i d

/-- At every point the tables hold the characters. -/
theorem tables (c : Dev nD) (t : Fin cfg0.N) : Tables (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) where
  f1 := by rw [iblk_2, iblk_3]; exact fun p q => ⟨F1_re m c p q, F1_im m c p q⟩
  t1 := by rw [iblk_4, iblk_5]; exact fun p q => ⟨W1_re m c p q, W1_im m c p q⟩
  f2 := by rw [iblk_6, iblk_7]; exact fun p q => ⟨F2_re m c p q, F2_im m c p q⟩
  g2 := by rw [iblk_8, iblk_9]; exact fun p q => ⟨G2_re m c p q, G2_im m c p q⟩
  t2 := by rw [iblk_10, iblk_11]; exact fun p q => ⟨W2_re m c p q, W2_im m c p q⟩
  g1 := by rw [iblk_12, iblk_13]; exact fun p q => ⟨G1_re m c p q, G1_im m c p q⟩

/-- Channel `d` of point `t`'s blocks. -/
def chan (t : Fin cfg0.N) (d : Fin 128) : Fin 1024 :=
  ⟨128 * (t.val / 8) + d.val, by have h : t.val < 64 := lt_of_lt_of_eq t.isLt N_0; omega⟩

/-- Point `t`'s batch. -/
def batch (t : Fin cfg0.N) : Fin 8 := ⟨t.val % 8, by omega⟩

/-- The filter's block at point `t` holds its channels' sequences. -/
theorem filt_block (c : Dev nD) (ht : ∀ i, argT m c i ≠ ⊤ ∧ argT m c i ≠ ⊥) (t : Fin cfg0.N) (a i : Fin 64) (d : Fin 128) :
    (iblk m c 1 t : Vec Ideal S64x64x128 .f32) (ix3 a i d) = (ts (argT m c) (chan t d) (64 * a + i) : EReal) := by
  rw [iblk_1 m c t (ix3 a i d) (ix3 a i (chan t d)) rfl rfl rfl, V_v1_apply]
  exact ts_coe (argT m c) ht (chan t d) _

/-- The signal's block at point `t` holds its batch's and channels' sequences. -/
theorem sig_block (c : Dev nD) (hx : ∀ i, argX m c i ≠ ⊤ ∧ argX m c i ≠ ⊥) (t : Fin cfg0.N) (a i : Fin 64) (d : Fin 128) :
    row (iblk m c 0 t : Vec Ideal S1x64x64x128 .f32) (ix3 a i d)
      = (xs (argX m c) (batch t) (chan t d) (64 * a + i) : EReal) := by
  rw [row_apply, iblk_0 m c t (ix4 0 a i d) (ix4 (batch t) a i (chan t d)) rfl rfl rfl rfl, V_v0_apply]
  exact xs_coe (argX m c) hx (batch t) (chan t d) _

/-- Point `t`'s block of results holds the causal sums. -/
theorem blockAt_apply (c : Dev nD) (hx : ∀ i, argX m c i ≠ ⊤ ∧ argX m c i ≠ ⊥) (ht : ∀ i, argT m c i ≠ ⊤ ∧ argT m c i ≠ ⊥)
    (t : Fin cfg0.N) (i : Fin 64) (d : Fin 128) (k : Fin 64) :
    blockAt m c t (ix4 0 i d k)
      = (causalR (xs (argX m c) (batch t) (chan t d)) (ts (argT m c) (chan t d)) (64 * k + i) : EReal) := by
  unfold blockAt mixAt filtRe filtIm
  rw [mixOf_eq, pay11_eq, pay12_eq]
  have hT := tables m c t
  refine Eq.trans ?_ (result_apply hT _ _ _ _ (fun d => xs (argX m c) (batch t) (chan t d)) (fun d => ts (argT m c) (chan t d))
    (holds_trans hT _ _ (sig_block m c hx t)) (holds_trans hT _ _ (filt_block m c ht t)) i d k)
  exact reshape_out _ i d k

/-- The result array's entry for batch `b`, column `i`, channel `d` and row `k`. -/
theorem arr_apply (c : Dev nD) (hx : ∀ i, argX m c i ≠ ⊤ ∧ argX m c i ≠ ⊥) (ht : ∀ i, argT m c i ≠ ⊤ ∧ argT m c i ≠ ⊥)
    (b : Fin 8) (i : Fin 64) (d : Fin 1024) (k : Fin 64) :
    arr m c (ix4 b i d k) = (causalR (xs (argX m c) b d) (ts (argT m c) d) (64 * k + i) : EReal) := by
  have hv : (ptOf (ix4 b i d k)).val = b.val + 8 * (d.val / 128) := rfl
  have hb : batch (ptOf (ix4 b i d k)) = b := Fin.ext (by show (ptOf (ix4 b i d k)).val % 8 = b.val; omega)
  have hd : chan (ptOf (ix4 b i d k)) ⟨d.val % 128, by omega⟩ = d :=
    Fin.ext (by show 128 * ((ptOf (ix4 b i d k)).val / 8) + d.val % 128 = d.val; omega)
  have hl : locOf (ix4 b i d k) = ix4 0 i (⟨d.val % 128, by omega⟩ : Fin 128) k := by
    funext a
    match a with
    | ⟨0, _⟩ => rfl
    | ⟨1, _⟩ => rfl
    | ⟨2, _⟩ => rfl
    | ⟨3, _⟩ => rfl
  unfold arr
  rw [hl, blockAt_apply m c hx ht, hb, hd]

/-- The kernel's result: the result array with its rows and columns put in order. -/
theorem out_apply (c : Dev nD) (hx : ∀ i, argX m c i ≠ ⊤ ∧ argX m c i ≠ ⊥) (ht : ∀ i, argT m c i ≠ ⊤ ∧ argT m c i ≠ ⊥)
    (b : Fin 8) (n : Fin 4096) (d : Fin 1024) :
    (shapeCast S8x4096x1024 (transpose S8x64x64x1024 [0, 3, 1, 2] (Value.reg_main_v104 m c)
        transposes_S8x64x1024x64_S8x64x64x1024_0_3_1_2) shapeCasts_S8x64x64x1024_S8x4096x1024 : S8x4096x1024.Idx → EReal) (ix3 b n d)
      = (causalR (xs (argX m c) b d) (ts (argT m c) d) n : EReal) := by
  rw [final14]
  have e : (shapeCast S8x4096x1024 (transpose S8x64x64x1024 [0, 3, 1, 2] (arr m c)
        transposes_S8x64x1024x64_S8x64x64x1024_0_3_1_2) shapeCasts_S8x64x64x1024_S8x4096x1024 : S8x4096x1024.Idx → EReal) (ix3 b n d)
      = arr m c (ix4 b (⟨n.val % 64, by omega⟩ : Fin 64) d (⟨n.val / 64, by omega⟩ : Fin 64)) := by
    generalize arr m c = A
    pointwise
  rw [e, arr_apply m c hx ht]
  congr 2
  show 64 * (n.val / 64) + n.val % 64 = n.val
  omega

end Cert.KernelIdeal.Mix

end
-- ==== Proof.Equation.lean ====
module

public import proofs.«01_k».proof.Proof.Reference
public import proofs.«01_k».proof.Proof.Sums

@[expose] public section

set_option maxRecDepth 16384

noncomputable section

/-! # The equation

Over finite arguments the kernel's result array is the reference's. -/

namespace Cert.Equation

open Idealize.ShloMosaic Idealize.ShloMosaic.TcCoe Idealize.SL.Sem Cert.KernelIdeal.Mix

/-- The array the kernel returns, rearranged from its own output, is the reference's array of the same arguments. -/
theorem kernel_eq_reference (m : (ℓ : Loc Cert.KernelIdeal.nD Cert.KernelIdeal.τ Cert.KernelIdeal.sig) → Buf (Elt Ideal) ℓ)
    (c : Dev Cert.KernelIdeal.nD) (hx : ∀ i, argX m c i ≠ ⊤ ∧ argX m c i ≠ ⊥) (ht : ∀ i, argT m c i ≠ ⊤ ∧ argT m c i ≠ ⊥) :
    (shapeCast Cert.KernelIdeal.S8x4096x1024
        (transpose Cert.KernelIdeal.S8x64x64x1024 [0, 3, 1, 2] (Cert.KernelIdeal.Value.reg_main_v104 m c)
          Cert.KernelIdeal.Gen.transposes_S8x64x1024x64_S8x64x64x1024_0_3_1_2)
        Cert.KernelIdeal.Gen.shapeCasts_S8x64x64x1024_S8x4096x1024 : Cert.KernelIdeal.S8x4096x1024.Idx → EReal)
      = Cert.ReferenceIdeal.Read.val_main_v22 (F := Ideal) (argX m c) (argT m c) := by
  funext i
  have e : i = ix3 (i 0) (i 1) (i 2) := by
    funext a
    match a with
    | ⟨0, _⟩ => rfl
    | ⟨1, _⟩ => rfl
    | ⟨2, _⟩ => rfl
  rw [e]
  exact (out_apply m c hx ht (i 0) (i 1) (i 2)).trans
    (Cert.ReferenceIdeal.Sum.out_apply (argX m c) (argT m c) hx ht (i 0) (i 1) (i 2)).symm

end Cert.Equation

end
-- ==== Proof.Finite.lean ====
module

public import proofs.«01_k».proof.Pre_finite
public import Idealize.ShloMosaic.Lib.ReduceAll
public import Idealize.ShloMosaic.Lib.Pointwise

@[expose] public section

set_option maxRecDepth 16384

noncomputable section

/-! # What the precondition says

Every entry of both inputs is finite. -/

namespace Cert.Pre_finite.Meaning

open Cert.Pre_finite Idealize.ShloMosaic

variable [Cert.Pre_finite.Facts]

/-- A value whose size is below the largest one is finite. -/
theorem finite_of_cmp (a : EReal)
    (h : FloatOps.cmpf (F := Ideal) (φ := .f32) .olt (FloatOps.hostAbsf (F := Ideal) (φ := .f32) a) (Ideal.ofBits .f32 0x7F800000#32) = 1#1) :
    a ≠ ⊤ ∧ a ≠ ⊥ := by
  have ht : Ideal.ofBits .f32 0x7F800000#32 = (⊤ : EReal) := by simp [Ideal.ofBits, Ideal.ieee]
  rw [ht] at h
  constructor
  · rintro rfl
    revert h
    show ¬(BitVec.ofBool (decide (max (⊤ : EReal) (-⊤) < ⊤)) = 1#1)
    simp
  · rintro rfl
    revert h
    show ¬(BitVec.ofBool (decide (max (⊥ : EReal) (-⊥) < ⊤)) = 1#1)
    simp

/-- A conjunction of two bits that is one. -/
theorem both_one : ∀ p q : BitVec 1, IntOp.andi p q = 1#1 → p = 1#1 ∧ q = 1#1 := by decide

/-- Where the precondition's bit is one, both inputs are finite everywhere. -/
theorem finite_of_pre (x : FVec Ideal S8x4096x1024 .f32) (t : FVec Ideal S4096x1024 .f32) (j : S_.Idx) (h : fn (F := Ideal) x t j = 1#1) :
    (∀ i, (x i : EReal) ≠ ⊤ ∧ (x i : EReal) ≠ ⊥) ∧ (∀ i, (t i : EReal) ≠ ⊤ ∧ (t i : EReal) ≠ ⊥) := by
  haveI : Subsingleton S_.Idx := ⟨fun a b => funext fun k => k.elim0⟩
  obtain ⟨hx, ht⟩ := both_one _ _ h
  exact ⟨fun i => finite_of_cmp _ (Host.reduce_andi_all _ _ _ _ j hx i), fun i => finite_of_cmp _ (Host.reduce_andi_all _ _ _ _ j ht i)⟩

end Cert.Pre_finite.Meaning

end
-- ==== Proof.lean ====
module

public import proofs.«01_k».proof.Defs
public import proofs.«01_k».proof.Proof.Gen.Kernel.Frame
public import proofs.«01_k».proof.Proof.Gen.KernelIdeal.Run
public import proofs.«01_k».proof.Proof.Gen.ReferenceIdeal.Read
public import proofs.«01_k».proof.Proof.Gen.Pre_finite
public import proofs.«01_k».proof.Proof.Equation
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its arguments, and leaves every counter at zero: it has none. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same over finite arguments. -/
theorem reference_frame_finite : quiescent_ReferenceIdeal_pre_finite := fun m ρ _ => reference_frame m ρ trivial

/-- Over finite arguments the kernel and the reference end with equal results. -/
theorem kernel_reference : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨hx, ht⟩ := Cert.Pre_finite.Meaning.finite_of_pre _ _ (fun k => k.elim0) (congrFun (hpre c) _)
  rw [(h c).1]
  simp only [hagree c]
  exact (Cert.ReferenceIdeal.Read.val_main_v22_eq (F := Ideal) _ _).trans (Cert.Equation.kernel_eq_reference m c hx ht).symm

/-- All the claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, reference_frame, reference_frame_finite,
    (trivial : preserves_Kernel_KernelIdeal), kernel_reference⟩

end Cert.Proof

end
